-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.Statement Cert.KernelIdeal.S1536x128 Cert.KernelIdeal.S768x128
  ∧ IdealRules.named_const.Statement Cert.KernelIdeal.κ "log2e" .f32 0x3FB8AA3B#32 (((Real.log 2)⁻¹ : ℝ) : EReal)
  ∧ IdealRules.named_const.Statement Cert.KernelIdeal.κ "log2e_over_16" .f32 0x3DB8AA3B#32 (((Real.log 2)⁻¹ * (1 / 16) : ℝ) : EReal)
  ∧ IdealRules.named_const.Statement Cert.KernelIdeal.κ "ln2" .f32 0x3F317218#32 ((Real.log 2 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x128x1536 : Shape := ⟨3, ![2, 128, 1536]⟩
abbrev S152064x1536 : Shape := ⟨2, ![152064, 1536]⟩
abbrev S152064 : Shape := ⟨1, ![152064]⟩
abbrev S152064x768 : Shape := ⟨2, ![152064, 768]⟩
abbrev S152064x12 : Shape := ⟨2, ![152064, 12]⟩
abbrev S2x128 : Shape := ⟨2, ![2, 128]⟩
abbrev S_ : Shape := ⟨0, ![]⟩

class Facts : Prop where
  bitsLt_bf16_f32 : FTy.bits .bf16 < FTy.bits .f32
  bcast_S_S2x128x1536 : S_.BroadcastsInDim S2x128x1536 (![] : Fin 0 → Fin S2x128x1536.rank)

variable [Facts]

def fn {F : FTy → Type} [FloatOps F] (main_arg0 : FVec F S2x128x1536 .bf16) (main_arg1 : FVec F S2x128x1536 .bf16) (main_arg2 : FVec F S152064x1536 .fp8e4m3) (main_arg3 : FVec F S152064 .f32) (main_arg4 : IVec S152064x768 8) (main_arg5 : FVec F S152064x12 .f32) (main_arg6 : IVec S2x128 32) : IVec S2x128x1536 1 :=
  let main_v0 : FVec F S2x128x1536 .f32 := (extf .f32 · bitsLt_bf16_f32) main_arg0
  let main_v1 : FVec F S2x128x1536 .f32 := Host.absf main_v0
  let main_cst : FVec F S_ .f32 := constant S_ .f32 0x7F7F0000#32
  let main_v2 : FVec F S2x128x1536 .f32 := broadcastInDim S2x128x1536 ![] bcast_S_S2x128x1536 main_cst
  let main_v3 : IVec S2x128x1536 1 := cmpf .ole main_v1 main_v2
  main_v3
-- ==== Kernel.lean ====
abbrev S2x128x1536 : Shape := ⟨3, ![2, 128, 1536]⟩
abbrev S152064x1536 : Shape := ⟨2, ![152064, 1536]⟩
abbrev S152064 : Shape := ⟨1, ![152064]⟩
abbrev S152064x768 : Shape := ⟨2, ![152064, 768]⟩
abbrev S152064x12 : Shape := ⟨2, ![152064, 12]⟩
abbrev S2x128 : Shape := ⟨2, ![2, 128]⟩
abbrev S1188x128 : Shape := ⟨2, ![1188, 128]⟩
abbrev S12x152064 : Shape := ⟨2, ![12, 152064]⟩
abbrev S1536x1536 : Shape := ⟨2, ![1536, 1536]⟩
abbrev S1536x768 : Shape := ⟨2, ![1536, 768]⟩
abbrev S12x1536 : Shape := ⟨2, ![12, 1536]⟩
abbrev S1536x256 : Shape := ⟨2, ![1536, 256]⟩
abbrev S768x256 : Shape := ⟨2, ![768, 256]⟩
abbrev S7x8x256 : Shape := ⟨3, ![7, 8, 256]⟩
abbrev S1x128x1536 : Shape := ⟨3, ![1, 128, 1536]⟩
abbrev S128x1536 : Shape := ⟨2, ![128, 1536]⟩
abbrev S128 : Shape := ⟨1, ![128]⟩
abbrev S128x1 : Shape := ⟨2, ![128, 1]⟩
abbrev S1536x128 : Shape := ⟨2, ![1536, 128]⟩
abbrev S128x128 : Shape := ⟨2, ![128, 128]⟩
abbrev S1x128 : Shape := ⟨2, ![1, 128]⟩
abbrev S768x128 : Shape := ⟨2, ![768, 128]⟩
abbrev S2x8x256 : Shape := ⟨3, ![2, 8, 256]⟩
abbrev S5x8x256 : Shape := ⟨3, ![5, 8, 256]⟩
abbrev S1x8x256 : Shape := ⟨3, ![1, 8, 256]⟩
abbrev S8x256 : Shape := ⟨2, ![8, 256]⟩
abbrev S1x256 : Shape := ⟨2, ![1, 256]⟩
abbrev S512x1536 : Shape := ⟨2, ![512, 1536]⟩
abbrev S512x256 : Shape := ⟨2, ![512, 256]⟩
abbrev S12x128 : Shape := ⟨2, ![12, 128]⟩
abbrev S64x128 : Shape := ⟨2, ![64, 128]⟩
abbrev S128x768 : Shape := ⟨2, ![128, 768]⟩
abbrev S512x768 : Shape := ⟨2, ![512, 768]⟩
abbrev S512x128 : Shape := ⟨2, ![512, 128]⟩
abbrev S256 : Shape := ⟨1, ![256]⟩

abbrev nBuf : Space → Nat
  | .hbm => 14
  | .vmem => 20
  | .smem => 0
  | _ => 0

abbrev bufTy : (tb : Table) → Fin (tcTables nBuf tb) → BufTy
  | .hbm, ⟨0, _⟩ => ⟨S2x128x1536, .bf16⟩
  | .hbm, ⟨1, _⟩ => ⟨S2x128x1536, .bf16⟩
  | .hbm, ⟨2, _⟩ => ⟨S152064x1536, .fp8e4m3⟩
  | .hbm, ⟨3, _⟩ => ⟨S152064, .f32⟩
  | .hbm, ⟨4, _⟩ => ⟨S152064x768, .i8⟩
  | .hbm, ⟨5, _⟩ => ⟨S152064x12, .f32⟩
  | .hbm, ⟨6, _⟩ => ⟨S2x128, .i32⟩
  | .hbm, ⟨7, _⟩ => ⟨S1188x128, .f32⟩
  | .hbm, ⟨8, _⟩ => ⟨S12x152064, .f32⟩
  | .hbm, ⟨9, _⟩ => ⟨S2x128, .f32⟩
  | .hbm, ⟨10, _⟩ => ⟨S2x128, .f32⟩
  | .hbm, ⟨11, _⟩ => ⟨S2x128, .f32⟩
  | .hbm, ⟨12, _⟩ => ⟨S2x128x1536, .fp8e4m3⟩
  | .hbm, ⟨13, _⟩ => ⟨S2x128, .f32⟩
  | .local _ .vmem, ⟨0, _⟩ => ⟨S2x128x1536, .bf16⟩
  | .local _ .vmem, ⟨1, _⟩ => ⟨S2x128x1536, .bf16⟩
  | .local _ .vmem, ⟨2, _⟩ => ⟨S2x128, .i32⟩
  | .local _ .vmem, ⟨3, _⟩ => ⟨S1188x128, .f32⟩
  | .local _ .vmem, ⟨4, _⟩ => ⟨S1536x1536, .fp8e4m3⟩
  | .local _ .vmem, ⟨5, _⟩ => ⟨S1536x1536, .fp8e4m3⟩
  | .local _ .vmem, ⟨6, _⟩ => ⟨S1536x768, .i8⟩
  | .local _ .vmem, ⟨7, _⟩ => ⟨S1536x768, .i8⟩
  | .local _ .vmem, ⟨8, _⟩ => ⟨S12x1536, .f32⟩
  | .local _ .vmem, ⟨9, _⟩ => ⟨S12x1536, .f32⟩
  | .local _ .vmem, ⟨10, _⟩ => ⟨S2x128, .f32⟩
  | .local _ .vmem, ⟨11, _⟩ => ⟨S2x128, .f32⟩
  | .local _ .vmem, ⟨12, _⟩ => ⟨S2x128, .f32⟩
  | .local _ .vmem, ⟨13, _⟩ => ⟨S2x128x1536, .fp8e4m3⟩
  | .local _ .vmem, ⟨14, _⟩ => ⟨S2x128, .f32⟩
  | .local _ .vmem, ⟨15, _⟩ => ⟨S1536x256, .fp8e4m3⟩
  | .local _ .vmem, ⟨16, _⟩ => ⟨S768x256, .bf16⟩
  | .local _ .vmem, ⟨17, _⟩ => ⟨S768x256, .bf16⟩
  | .local _ .vmem, ⟨18, _⟩ => ⟨S2x128, .f32⟩
  | .local _ .vmem, ⟨19, _⟩ => ⟨S7x8x256, .f32⟩
  | _, _ => ⟨S2x128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [BitOps F]

abbrev grid0 : Pipeline.Grid := ⟨1, ![99], ![false]⟩

def k0_off1 (i : grid0.Coords) (c0_i32_29 : BitVec 32) : Fin 2 → Nat :=
  let arg0 : BitVec 32 := BitVec.ofNat 32 (i 0).val
  let c12_i32 : BitVec 32 := 12#32
  let v84 : BitVec 32 := Scalar.muli arg0 c12_i32
  let v85 : BitVec 32 := Scalar.addi v84 c0_i32_29
  let v86 : Index := Scalar.indexCast v85
  let c0_30 : Index := 0#32
  ![v86.toNat, 0]
def k0_cond2 (i : grid0.Coords) : BitVec 1 :=
  let arg0 : BitVec 32 := BitVec.ofNat 32 (i 0).val
  let c98_i32 : BitVec 32 := 98#32
  let v4928 : BitVec 1 := Scalar.cmpi .eq arg0 c98_i32
  let v4929 : BitVec 32 := Scalar.extui v4928
  let c0_i32_132 : BitVec 32 := 0#32
  let v4930 : BitVec 1 := Scalar.cmpi .ne v4929 c0_i32_132
  v4930

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x128x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x128x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1188x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1536x1536 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x768 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S12x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128x1536 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "log2e_over_16" => some (((Real.log 2)⁻¹ * (1 / 16) : ℝ) : EReal)
  | _ => none
-- ==== ReferenceIdeal.lean ====
abbrev S2x128x1536 : Shape := ⟨3, ![2, 128, 1536]⟩
abbrev S152064x1536 : Shape := ⟨2, ![152064, 1536]⟩
abbrev S152064 : Shape := ⟨1, ![152064]⟩
abbrev S152064x768 : Shape := ⟨2, ![152064, 768]⟩
abbrev S152064x12 : Shape := ⟨2, ![152064, 12]⟩
abbrev S2x128 : Shape := ⟨2, ![2, 128]⟩
abbrev S256x1536 : Shape := ⟨2, ![256, 1536]⟩
abbrev S256x768 : Shape := ⟨2, ![256, 768]⟩
abbrev S2x128x254 : Shape := ⟨3, ![2, 128, 254]⟩
abbrev S2x128x1 : Shape := ⟨3, ![2, 128, 1]⟩
abbrev S256 : Shape := ⟨1, ![256]⟩
abbrev S256x152064 : Shape := ⟨2, ![256, 152064]⟩
abbrev S256x1 : Shape := ⟨2, ![256, 1]⟩
abbrev S1x152064 : Shape := ⟨2, ![1, 152064]⟩
abbrev S152064x12x64 : Shape := ⟨3, ![152064, 12, 64]⟩
abbrev S152064x12x1 : Shape := ⟨3, ![152064, 12, 1]⟩

abbrev nBuf : Space → Nat
  | .hbm => 15
  | .vmem => 13
  | .smem => 0
  | _ => 0

abbrev bufTy : (tb : Table) → Fin (tcTables nBuf tb) → BufTy
  | .hbm, ⟨0, _⟩ => ⟨S2x128x1536, .bf16⟩
  | .hbm, ⟨1, _⟩ => ⟨S2x128x1536, .bf16⟩
  | .hbm, ⟨2, _⟩ => ⟨S152064x1536, .fp8e4m3⟩
  | .hbm, ⟨3, _⟩ => ⟨S152064, .f32⟩
  | .hbm, ⟨4, _⟩ => ⟨S152064x768, .i8⟩
  | .hbm, ⟨5, _⟩ => ⟨S152064x12, .f32⟩
  | .hbm, ⟨6, _⟩ => ⟨S2x128, .i32⟩
  | .hbm, ⟨7, _⟩ => ⟨S256x1536, .bf16⟩
  | .hbm, ⟨8, _⟩ => ⟨S256x768, .bf16⟩
  | .hbm, ⟨9, _⟩ => ⟨S256x768, .bf16⟩
  | .hbm, ⟨10, _⟩ => ⟨S2x128, .f32⟩
  | .hbm, ⟨11, _⟩ => ⟨S2x128, .f32⟩
  | .hbm, ⟨12, _⟩ => ⟨S2x128, .f32⟩
  | .hbm, ⟨13, _⟩ => ⟨S2x128x1536, .fp8e4m3⟩
  | .hbm, ⟨14, _⟩ => ⟨S2x128, .f32⟩
  | .local _ .vmem, ⟨0, _⟩ => ⟨S2x128x1536, .bf16⟩
  | .local _ .vmem, ⟨1, _⟩ => ⟨S256x768, .bf16⟩
  | .local _ .vmem, ⟨2, _⟩ => ⟨S256x768, .bf16⟩
  | .local _ .vmem, ⟨3, _⟩ => ⟨S152064x1536, .fp8e4m3⟩
  | .local _ .vmem, ⟨4, _⟩ => ⟨S152064, .f32⟩
  | .local _ .vmem, ⟨5, _⟩ => ⟨S152064x768, .i8⟩
  | .local _ .vmem, ⟨6, _⟩ => ⟨S152064x12, .f32⟩
  | .local _ .vmem, ⟨7, _⟩ => ⟨S2x128, .i32⟩
  | .local _ .vmem, ⟨8, _⟩ => ⟨S2x128, .f32⟩
  | .local _ .vmem, ⟨9, _⟩ => ⟨S2x128, .f32⟩
  | .local _ .vmem, ⟨10, _⟩ => ⟨S2x128, .f32⟩
  | .local _ .vmem, ⟨11, _⟩ => ⟨S2x128x1536, .fp8e4m3⟩
  | .local _ .vmem, ⟨12, _⟩ => ⟨S2x128, .f32⟩
  | _, _ => ⟨S2x128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S2x128x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S152064x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S152064 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S152064x768 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S152064x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x128x1536 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KernelFrame.lean ====
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! The kernel before idealization runs to its end and changes none of its arguments. Nothing is said of its results or
    its scratch buffers: they hold anything before a grid point and anything after it. -/

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The body's branch conditions -/

/-- The condition of the body's `scf.if` 0 from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 99 = 0 :=
  (fun t => by
    have ht : t.val < 99 := Nat.lt_of_lt_of_eq t.isLt N_0
    have e0 : (grid0.coords t 0).val = t.val / 1 % 99 := Pipeline.Grid.coords_val t 0 (by decide) rfl
    simp only [cond0_0, k0_cond1, e0]
    word_cmp
   : ∀ t : Fin grid0.N, cond0_0 (grid0.coords t) ↔ t.val % 99 = 0)

/-- The condition of the body's `scf.if` 1 from the grid coordinates. -/
abbrev cond0_1 (i : grid0.Coords) : Prop := k0_cond2 i = 1#1
/-- It holds at the last point only — by arithmetic of the point. -/
theorem hcond0_1 : ∀ t : Fin cfg0.N, cond0_1 (grid0.coords t) ↔ t.val % 99 = 98 :=
  (fun t => by
    have ht : t.val < 99 := Nat.lt_of_lt_of_eq t.isLt N_0
    have e0 : (grid0.coords t 0).val = t.val / 1 % 99 := Pipeline.Grid.coords_val t 0 (by decide) rfl
    simp only [cond0_1, k0_cond2, e0]
    word_cmp
   : ∀ t : Fin grid0.N, cond0_1 (grid0.coords t) ↔ t.val % 99 = 98)

/-! ## Where the windows are idle (the printed configuration's table `Cfg.idle`) -/

/-- Window 0 is never idle (an input). -/
theorem live_0 : ∀ t : Fin cfg0.N, cfg0.idle 0 (grid0.coords t) = false := fun _ => rfl
/-- Window 1 is never idle (an input). -/
theorem live_1 : ∀ t : Fin cfg0.N, cfg0.idle 1 (grid0.coords t) = false := fun _ => rfl
/-- Window 2 is never idle (an input). -/
theorem live_2 : ∀ t : Fin cfg0.N, cfg0.idle 2 (grid0.coords t) = false := fun _ => rfl
/-- Window 3 is never idle (an input). -/
theorem live_3 : ∀ t : Fin cfg0.N, cfg0.idle 3 (grid0.coords t) = false := fun _ => rfl
/-- Window 4 is never idle (an input). -/
theorem live_4 : ∀ t : Fin cfg0.N, cfg0.idle 4 (grid0.coords t) = false := fun _ => rfl
/-- Window 5 is never idle (an input). -/
theorem live_5 : ∀ t : Fin cfg0.N, cfg0.idle 5 (grid0.coords t) = false := fun _ => rfl
/-- Window 6 is never idle (an input). -/
theorem live_6 : ∀ t : Fin cfg0.N, cfg0.idle 6 (grid0.coords t) = false := fun _ => rfl
/-! ## The buffers -/

/-- Each window's current staging memref at point `t`, spelled as the pipeline passes it (`bodyAt0`), and its wholeness. -/
abbrev ms0_0 (t : Fin cfg0.N) : Memref sig .tc .vmem S2x128x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x128x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1188x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x1536 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x768 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x128x1536 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S1536x256 .fp8e4m3 := Memref.whole cc0_scratch0
abbrev scM0_1 : Memref sig .tc .vmem S768x256 .bf16 := Memref.whole cc0_scratch1
abbrev scM0_2 : Memref sig .tc .vmem S768x256 .bf16 := Memref.whole cc0_scratch2
abbrev scM0_3 : Memref sig .tc .vmem S2x128 .f32 := Memref.whole cc0_scratch3
abbrev scM0_4 : Memref sig .tc .vmem S7x8x256 .f32 := Memref.whole cc0_scratch4

/-- The pipeline's own invariant: the scratch buffers hold anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The body at any grid point -/

set_option maxHeartbeats 6400000 in
/-- From the inputs at given contents and every other buffer at anything, the body runs to its end and leaves the same:
    at the first point, at a middle point and at the last. -/
theorem body_run (c : Dev nD) (i : grid0.Coords) (arg1 : Memref sig .tc .vmem S2x128x1536 .bf16) (harg1 : arg1.IsWhole) (arg2 : Memref sig .tc .vmem S2x128x1536 .bf16) (harg2 : arg2.IsWhole) (arg3 : Memref sig .tc .vmem S2x128 .i32) (harg3 : arg3.IsWhole) (arg4 : Memref sig .tc .vmem S1188x128 .f32) (harg4 : arg4.IsWhole) (arg5 : Memref sig .tc .vmem S1536x1536 .fp8e4m3) (harg5 : arg5.IsWhole) (arg6 : Memref sig .tc .vmem S1536x768 .i8) (harg6 : arg6.IsWhole) (arg7 : Memref sig .tc .vmem S12x1536 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128x1536 .fp8e4m3) (harg11 : arg11.IsWhole) (arg12 : Memref sig .tc .vmem S2x128 .f32) (harg12 : arg12.IsWhole) (arg13 : Memref sig .tc .vmem S1536x256 .fp8e4m3) (harg13 : arg13.IsWhole) (arg14 : Memref sig .tc .vmem S768x256 .bf16) (harg14 : arg14.IsWhole) (arg15 : Memref sig .tc .vmem S768x256 .bf16) (harg15 : arg15.IsWhole) (arg16 : Memref sig .tc .vmem S2x128 .f32) (harg16 : arg16.IsWhole) (arg17 : Memref sig .tc .vmem S7x8x256 .f32) (harg17 : arg17.IsWhole)
    (x0 : Vec F S2x128x1536 .bf16) (x1 : Vec F S2x128x1536 .bf16) (x2 : Vec F S2x128 .i32) (x3 : Vec F S1188x128 .f32) (x4 : Vec F S1536x1536 .fp8e4m3) (x5 : Vec F S1536x768 .i8) (x6 : Vec F S12x1536 .f32)
    (hc : (cond0_0 i ∧ ¬cond0_1 i) ∨ (¬cond0_0 i ∧ ¬cond0_1 i) ∨ (¬cond0_0 i ∧ cond0_1 i)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_heads_logprob_kl i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_heads_logprob_kl_eq_skeleton]; unfold cc0_heads_logprob_kl_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  rcases hc with ⟨hc0, hc1⟩ | ⟨hc0, hc1⟩ | ⟨hc0, hc1⟩ <;>
    ( sl_exec (disch := first | sl_exact hc0 | sl_exact hc1)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      iexists _, _; isplitr; swap; · iexact H16
      ipureintro; rfl )

variable (m : (ℓ : Loc nD τ sig) → Buf (Elt F) ℓ) (ρ : Dev nD → PrngReg)

/-! ## The pipeline -/

/-- The windows of the results, of whose contents nothing is said. -/
def loose : Fin 12 → Bool := fun w => w.val == 7 || w.val == 8 || w.val == 9 || w.val == 10 || w.val == 11

/-- The proof data of the pipeline: inputs stay at their blocks. -/
def kdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem kA (c : Dev nD) (w : Fin cfg0.W) : (kdat m 0 c).A w = V m c (Pipeline.arrRef spec0 w) := by
  dsimp only [kdat]

theorem post_0 (c : Dev nD) (t : Fin cfg0.N) : (kdat m 0 c).after 0 t = iblk m c 0 t := by dsimp only [kdat]
theorem post_1 (c : Dev nD) (t : Fin cfg0.N) : (kdat m 0 c).after 1 t = iblk m c 1 t := by dsimp only [kdat]
theorem post_2 (c : Dev nD) (t : Fin cfg0.N) : (kdat m 0 c).after 2 t = iblk m c 2 t := by dsimp only [kdat]
theorem post_3 (c : Dev nD) (t : Fin cfg0.N) : (kdat m 0 c).after 3 t = iblk m c 3 t := by dsimp only [kdat]
theorem post_4 (c : Dev nD) (t : Fin cfg0.N) : (kdat m 0 c).after 4 t = iblk m c 4 t := by dsimp only [kdat]
theorem post_5 (c : Dev nD) (t : Fin cfg0.N) : (kdat m 0 c).after 5 t = iblk m c 5 t := by dsimp only [kdat]
theorem post_6 (c : Dev nD) (t : Fin cfg0.N) : (kdat m 0 c).after 6 t = iblk m c 6 t := by dsimp only [kdat]

theorem pre_0 (c : Dev nD) (t : Fin cfg0.N) (d) : (kdat m 0 c).before 0 t d = iblk m c 0 t :=
  before0_0_of m (kdat m 0 c) (kA m c 0) (post_0 m c) t d
theorem pre_1 (c : Dev nD) (t : Fin cfg0.N) (d) : (kdat m 0 c).before 1 t d = iblk m c 1 t :=
  before0_1_of m (kdat m 0 c) (kA m c 1) (post_1 m c) t d
theorem pre_2 (c : Dev nD) (t : Fin cfg0.N) (d) : (kdat m 0 c).before 2 t d = iblk m c 2 t :=
  before0_2_of m (kdat m 0 c) (kA m c 2) (post_2 m c) t d
theorem pre_3 (c : Dev nD) (t : Fin cfg0.N) (d) : (kdat m 0 c).before 3 t d = iblk m c 3 t :=
  before0_3_of m (kdat m 0 c) (kA m c 3) (post_3 m c) t d
theorem pre_4 (c : Dev nD) (t : Fin cfg0.N) (d) : (kdat m 0 c).before 4 t d = iblk m c 4 t :=
  before0_4_of m (kdat m 0 c) (kA m c 4) (post_4 m c) t d
theorem pre_5 (c : Dev nD) (t : Fin cfg0.N) (d) : (kdat m 0 c).before 5 t d = iblk m c 5 t :=
  before0_5_of m (kdat m 0 c) (kA m c 5) (post_5 m c) t d
theorem pre_6 (c : Dev nD) (t : Fin cfg0.N) (d) : (kdat m 0 c).before 6 t d = iblk m c 6 t :=
  before0_6_of m (kdat m 0 c) (kA m c 6) (post_6 m c) t d

theorem leaves_0 (c : Dev nD) (t : Fin cfg0.N) : (kdat m 0 c).leavesExact 0 t = owns (c : Thread nD τ) (ms0_0 t) fullShare (iblk m c 0 t) := by
  unfold Dat.leavesExact; rw [live_0 t, post_0]
theorem leaves_1 (c : Dev nD) (t : Fin cfg0.N) : (kdat m 0 c).leavesExact 1 t = owns (c : Thread nD τ) (ms0_1 t) fullShare (iblk m c 1 t) := by
  unfold Dat.leavesExact; rw [live_1 t, post_1]
theorem leaves_2 (c : Dev nD) (t : Fin cfg0.N) : (kdat m 0 c).leavesExact 2 t = owns (c : Thread nD τ) (ms0_2 t) fullShare (iblk m c 2 t) := by
  unfold Dat.leavesExact; rw [live_2 t, post_2]
theorem leaves_3 (c : Dev nD) (t : Fin cfg0.N) : (kdat m 0 c).leavesExact 3 t = owns (c : Thread nD τ) (ms0_3 t) fullShare (iblk m c 3 t) := by
  unfold Dat.leavesExact; rw [live_3 t, post_3]
theorem leaves_4 (c : Dev nD) (t : Fin cfg0.N) : (kdat m 0 c).leavesExact 4 t = owns (c : Thread nD τ) (ms0_4 t) fullShare (iblk m c 4 t) := by
  unfold Dat.leavesExact; rw [live_4 t, post_4]
theorem leaves_5 (c : Dev nD) (t : Fin cfg0.N) : (kdat m 0 c).leavesExact 5 t = owns (c : Thread nD τ) (ms0_5 t) fullShare (iblk m c 5 t) := by
  unfold Dat.leavesExact; rw [live_5 t, post_5]
theorem leaves_6 (c : Dev nD) (t : Fin cfg0.N) : (kdat m 0 c).leavesExact 6 t = owns (c : Thread nD τ) (ms0_6 t) fullShare (iblk m c 6 t) := by
  unfold Dat.leavesExact; rw [live_6 t, post_6]

/-- What the body is called with at point `t`, -/
def obPre (c : Dev nD) (t : Fin cfg0.N) : sProp 𝕄 :=
  iprop((kdat m 0 c).Φ t.castSucc ∗ (kdat m 0 c).owesAt () t.castSucc
    ∗ (∃ d, owns (c : Thread nD τ) (ms0_0 t) fullShare ((kdat m 0 c).before 0 t d))
    ∗ (∃ d, owns (c : Thread nD τ) (ms0_1 t) fullShare ((kdat m 0 c).before 1 t d))
    ∗ (∃ d, owns (c : Thread nD τ) (ms0_2 t) fullShare ((kdat m 0 c).before 2 t d))
    ∗ (∃ d, owns (c : Thread nD τ) (ms0_3 t) fullShare ((kdat m 0 c).before 3 t d))
    ∗ (∃ d, owns (c : Thread nD τ) (ms0_4 t) fullShare ((kdat m 0 c).before 4 t d))
    ∗ (∃ d, owns (c : Thread nD τ) (ms0_5 t) fullShare ((kdat m 0 c).before 5 t d))
    ∗ (∃ d, owns (c : Thread nD τ) (ms0_6 t) fullShare ((kdat m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def obPost (c : Dev nD) (t : Fin cfg0.N) : sProp 𝕄 :=
  iprop((kdat m 0 c).Φ t.succ ∗ (kdat m 0 c).owesAt () t.succ
    ∗ (kdat m 0 c).leavesExact 0 t
    ∗ (kdat m 0 c).leavesExact 1 t
    ∗ (kdat m 0 c).leavesExact 2 t
    ∗ (kdat m 0 c).leavesExact 3 t
    ∗ (kdat m 0 c).leavesExact 4 t
    ∗ (kdat m 0 c).leavesExact 5 t
    ∗ (kdat m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

theorem point_cases (t : Fin cfg0.N) : (cond0_0 (grid0.coords t) ∧ ¬cond0_1 (grid0.coords t)) ∨
    (¬cond0_0 (grid0.coords t) ∧ ¬cond0_1 (grid0.coords t)) ∨ (¬cond0_0 (grid0.coords t) ∧ cond0_1 (grid0.coords t)) := by
  rw [hcond0_0, hcond0_1]; omega

set_option maxHeartbeats 3200000 in
theorem sound (c : Dev nD) (t : Fin cfg0.N) :
    obPre m c t ⊢ wp frame (wpE (defs₀ (F := F)) Variants.none c none) Set.univ (bodyAt0 t) (fun _ => obPost m c t) := by
  unfold obPre obPost bodyAt0
  simp only [pre_0, pre_1, pre_2, pre_3, pre_4, pre_5, pre_6, leaves_0, leaves_1, leaves_2, leaves_3, leaves_4, leaves_5, leaves_6]
  rw [show (kdat m 0 c).owesAt () t.succ = (kdat m 0 c).owesAt () t.castSucc from rfl]
  rw [show (kdat m 0 c).Φ t.succ = Pipeline.ΦA spec0 c from rfl, show (kdat m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, H7, H8, H9, H10, H11⟩
  iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (point_cases t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body's row of the table is the body as `bodyAt0` spells it. -/
theorem row_eq (t : Fin cfg0.N) :
    defs₀ (F := F) .tc cfg0.body (cfg0.bodyArgs t (cfg0.slots t)) = bodyAt0 t := by
  unfold defs₀; rw [Defs.onTc_tc]

theorem obligation (c : Dev nD) : BodyObligation (kdat (F := F) m 0 c) (defs₀ (F := F)) Variants.none () Set.univ loose := fun t => by
  rw [bigSep_W0, bigSep_W0, row_eq]
  exact triple_restated (sound m c t) rfl .rfl fun _ => .rfl

set_option backward.isDefEq.respectTransparency.types false in
/-- The run: the inputs unchanged, every counter at zero. -/
theorem run_all : θ_run defs (onTc (τ := τ) (main (F := F))) (s₀ m ρ) (fun r => (Pipeline.RDat.FramePost (cfgs 0) (fun c => (kdat m 0 c).toRForget loose) (V m)) r ∧ r.2.sem = fun _ => 0) :=
  Pipeline.θ_run_frame_track_forget (Q' := _) cfgs (kdat m) (0 : Fin 1) launch0 defs₀ Variants.none loose m ρ main
    (hbody := fun c => (obligation m c).loose) (hshare := fun c => (kdat m 0 c).share_full fun _ => rfl)
    (howed := fun _ _ => rfl) (V := V m) (hmain := hmain m Variants.none) (hA := kA m)
    (hin := fun c => .rfl) (hout := fun c => .rfl)

/-- The arguments of the program are among what such a run leaves unchanged. -/
theorem args_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 4 rfl).trans ((hA c 4).trans (V_main_arg2 m c)),
      ((h c).2 main_arg3 (Pipeline.mem_restRefs_of main_arg3 (by decide) (by decide))).trans (V_main_arg3 m c),
      (Pipeline.RDat.FramePost.arr_in h c 5 rfl).trans ((hA c 5).trans (V_main_arg4 m c)),
      ((h c).2 main_arg5 (Pipeline.mem_restRefs_of main_arg5 (by decide) (by decide))).trans (V_main_arg5 m c),
      (Pipeline.RDat.FramePost.arr_in h c 2 rfl).trans ((hA c 2).trans (V_main_arg6 m c))⟩) h

/-- Every argument is unchanged and every counter is at zero at the end. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (args_kept m ρ (fun c => (kdat m 0 c).toRForget loose) (kA m) ((θ_run defs _ _).mono (fun _ h => h.1) (run_all m ρ)))
    ((θ_run defs _ _).mono (fun _ h => h.2) (run_all m ρ))

end Cert.Kernel.Run

end
-- ==== Proof.Tile.lean ====
module

public import proofs.«01_k».proof.Proof.Gen.KernelIdeal.Skeleton

@[expose] public section

set_option synthInstance.maxSize 4096

noncomputable section

/-! The kernel's body as functions of whole vectors: one vocabulary tile of 512 rows, the three tiles of a grid
    point, the last point's reduction and the first point's quantiser. Every loop the kernel unrolls is one recursion
    here, so that a fact is proved once for every slice and every tile. -/

namespace Cert.KernelIdeal.Tile

open Cert.KernelIdeal.Gen
open Idealize.ShloMosaic

variable {F : FTy → Type} [FloatOps F] [Named F]

/-- `f (n-1) (… (f 0 a))`. -/
def scan {α : Type} (f : ℕ → α → α) (a : α) (n : ℕ) : α := Nat.rec a (fun k b => f k b) n

theorem scan_zero {α : Type} (f : ℕ → α → α) (a : α) : scan f a 0 = a := rfl
theorem scan_succ {α : Type} (f : ℕ → α → α) (a : α) (n : ℕ) : scan f a (n + 1) = f n (scan f a n) := rfl

theorem slices_rows8 (k : ℕ) : S512x256.Slices ![8 * (k % 64), 0] S8x256 := by
  refine ⟨rfl, fun a => ?_⟩
  have hk : k % 64 < 64 := Nat.mod_lt _ (by decide)
  fin_cases a
  · show 8 * (k % 64) + 8 ≤ 512; omega
  · show 0 + 256 ≤ 256; omega

/-- Rows `8k … 8k+7`. -/
def rows8 (y : FVec F S512x256 .f32) (k : ℕ) : FVec F S8x256 .f32 :=
  extractStridedSlice S8x256 ![8 * (k % 64), 0] y (slices_rows8 k)

/-- The maximum over `2^l` slices from slice `o·2^l` on, pairwise. -/
def rmax (y : FVec F S512x256 .f32) (l : ℕ) : ℕ → FVec F S8x256 .f32 :=
  Nat.rec (rows8 y) (fun _ g o => maximumf (g (2 * o)) (g (2 * o + 1))) l

/-- The running maximum after a tile. -/
def newMax (y : FVec F S512x256 .f32) (m : FVec F S8x256 .f32) : FVec F S8x256 .f32 := maximumf m (rmax y 6 0)

/-- The running sum of weights after a tile. -/
def newSum (y : FVec F S512x256 .f32) (m s : FVec F S8x256 .f32) : FVec F S8x256 .f32 :=
  scan (fun k a => addf a (exp2 (subf (rows8 y k) (newMax y m)))) (mulf (exp2 (subf m (newMax y m))) s) 64

/-- The running weighted sum of differences after a tile. -/
def newT (yp yq : FVec F S512x256 .f32) (mp mq sp t : FVec F S8x256 .f32) : FVec F S8x256 .f32 :=
  scan (fun k a => addf a (mulf (exp2 (subf (rows8 yp k) (newMax yp mp)))
      (subf (subf (rows8 yp k) (newMax yp mp)) (subf (rows8 yq k) (newMax yq mq)))))
    (mulf (exp2 (subf mp (newMax yp mp)))
      (addf t (mulf sp (subf (subf mp (newMax yp mp)) (subf mq (newMax yq mq)))))) 64

/-- The logit at the target, once its row is met. -/
def newHit (r0 : ℕ) (rel : IVec S8x256 32) (y : FVec F S512x256 .f32) (h : FVec F S8x256 .f32) : FVec F S8x256 .f32 :=
  scan (fun k a => select (cmpi .eq rel (broadcast S8x256 (BitVec.ofNat 32 (r0 + 8 * k)))) (rows8 y k) a) h 64

/-- The seven carried statistics. -/
structure St (F : FTy → Type) [FloatOps F] where
  mp : FVec F S8x256 .f32
  mq : FVec F S8x256 .f32
  sp : FVec F S8x256 .f32
  sq : FVec F S8x256 .f32
  t : FVec F S8x256 .f32
  tp : FVec F S8x256 .f32
  tq : FVec F S8x256 .f32

/-- One vocabulary tile. -/
def tile (r0 : ℕ) (rel : IVec S8x256 32) (yp yq : FVec F S512x256 .f32) (st : St F) : St F where
  mp := newMax yp st.mp
  mq := newMax yq st.mq
  sp := newSum yp st.mp st.sp
  sq := newSum yq st.mq st.sq
  t := newT yp yq st.mp st.mq st.sp st.t
  tp := newHit r0 rel yp st.tp
  tq := newHit r0 rel yq st.tq

/-- A row of 128 policy scales down the rows of a square. -/
def wcol (g : Vec F S1x128 .f32) : FVec F S128x128 .f32 :=
  transpose S128x128 [1, 0] (broadcastTo S128x128 (shapeCast S1x128 (shapeCast S1x128 g shapeCasts_S1x128_S1x128)
    shapeCasts_S1x128_S1x128) broadcasts_S1x128_S128x128) transposes_S128x128_p1_0_S128x128

/-- The policy logits of a tile, in units of `1/log2 e`. -/
def ypOf (w : Vec F S512x1536 .fp8e4m3) (xt : Vec F S1536x256 .fp8e4m3) (g0 g1 g2 g3 : Vec F S1x128 .f32)
    (cp : FVec F S1x256 .f32) : FVec F S512x256 .f32 :=
  have ws : FVec F S512x128 .f32 := concatenate S512x128 0 [⟨S128x128, wcol g0⟩, ⟨S128x128, wcol g1⟩,
    ⟨S128x128, wcol g2⟩, ⟨S128x128, wcol g3⟩] concatenates_S128x128_S128x128_S128x128_S128x128_S512x128_d0
  mulf (mulf (matmul dot_S512x1536_S1536x256_S512x256_1_0_0_1_n_n none w xt (constant S512x256 .f32 0x00000000#32))
      (concatenate S512x256 1 [⟨S512x128, ws⟩, ⟨S512x128, ws⟩] concatenates_S512x128_S512x128_S512x256_d1))
    (broadcastTo S512x256 cp broadcasts_S1x256_S512x256)

theorem slices_row12 (k : ℕ) : S12x128.Slices ![k % 12, 0] S1x128 := by
  refine ⟨rfl, fun a => ?_⟩
  have hk : k % 12 < 12 := Nat.mod_lt _ (by decide)
  fin_cases a
  · show k % 12 + 1 ≤ 12; omega
  · show 0 + 128 ≤ 128; omega

/-- Row `k` of the group scales, over 64 rows. -/
def qrow (h : FVec F S12x128 .bf16) (k : ℕ) : FVec F S64x128 .bf16 :=
  broadcastTo S64x128 (shapeCast S1x128 (extractStridedSlice S1x128 ![k % 12, 0] h (slices_row12 k))
    shapeCasts_S1x128_S1x128) broadcasts_S1x128_S64x128

/-- Groups `2j` and `2j+1` of 128 vocabulary rows: entry `(v, c)` is the scale of row `v` at half-column `128j + c`. -/
def qpat (h : FVec F S12x128 .bf16) (j : ℕ) : FVec F S128x128 .bf16 :=
  transpose S128x128 [1, 0] (concatenate S128x128 0 [⟨S64x128, qrow h (2 * j)⟩, ⟨S64x128, qrow h (2 * j + 1)⟩]
    concatenates_S64x128_S64x128_S128x128_d0) transposes_S128x128_p1_0_S128x128

/-- The scales of 128 vocabulary rows at every half-column. -/
def qsq (h : Vec F S12x128 .f32) : FVec F S128x768 .bf16 :=
  have b : FVec F S12x128 .bf16 := truncf .bf16 (shapeCast S12x128 h shapeCasts_S12x128_S12x128) bitsLt_bf16_f32
  concatenate S128x768 1 [⟨S128x128, qpat b 0⟩, ⟨S128x128, qpat b 1⟩, ⟨S128x128, qpat b 2⟩, ⟨S128x128, qpat b 3⟩,
    ⟨S128x128, qpat b 4⟩, ⟨S128x128, qpat b 5⟩]
    concatenates_S128x128_S128x128_S128x128_S128x128_S128x128_S128x128_S128x768_d1

/-- The four groups of 128 vocabulary rows of a tile. -/
def qscale (h0 h1 h2 h3 : Vec F S12x128 .f32) : FVec F S512x768 .bf16 :=
  concatenate S512x768 0 [⟨S128x768, qsq h0⟩, ⟨S128x768, qsq h1⟩, ⟨S128x768, qsq h2⟩, ⟨S128x768, qsq h3⟩]
    concatenates_S128x768_S128x768_S128x768_S128x768_S512x768_d0

/-- The low nibbles, sixteen times their signed value. -/
def loNib (w : Vec F S512x768 .i8) : IVec S512x768 8 :=
  bitcast S512x768 8 (andi (shli (bitcast S128x768 32 w bitcasts_S512x768_w8_S128x768_w32) (broadcast S128x768 4#32))
    (broadcast S128x768 4042322160#32)) bitcasts_S128x768_w32_S512x768_w8

/-- The high nibbles, sixteen times their signed value. -/
def hiNib (w : Vec F S512x768 .i8) : IVec S512x768 8 :=
  bitcast S512x768 8 (andi (bitcast S128x768 32 w bitcasts_S512x768_w8_S128x768_w32)
    (broadcast S128x768 4042322160#32)) bitcasts_S128x768_w32_S512x768_w8

/-- The reference logits of a tile, in units of `1/log2 e`. -/
def yqOf (w : Vec F S512x768 .i8) (h0 h1 h2 h3 : Vec F S12x128 .f32) (ev od : Vec F S768x256 .bf16) :
    FVec F S512x256 .f32 :=
  mulf (addf
      (matmul dot_S512x768_S768x256_S512x256_1_0_0_1_n_n none (mulf (sitofp .bf16 (loNib w)) (qscale h0 h1 h2 h3)) ev
        (constant S512x256 .f32 0x00000000#32))
      (matmul dot_S512x768_S768x256_S512x256_1_0_0_1_n_n none (mulf (sitofp .bf16 (hiNib w)) (qscale h0 h1 h2 h3)) od
        (constant S512x256 .f32 0x00000000#32)))
    (broadcast S512x256 (Named.named κ "log2e_over_16" 0x3DB8AA3B#32))

/-- The target's row relative to the point's first row and to the sublane. -/
def relOf (i : grid0.Coords) (t0 t1 : Vec F S1x128 .i32) : IVec S8x256 32 :=
  subi (broadcastTo S8x256 (subi (concatenate S1x256 1 [⟨S1x128, t0⟩, ⟨S1x128, t1⟩] concatenates_S1x128_S1x128_S1x256_d1)
      (broadcast S1x256 (Scalar.muli (BitVec.ofNat 32 (i 0).val) 1536#32))) broadcasts_S1x256_S8x256)
    (iota .tc S8x256 32 [0] iota_S8x256_d0_w32)

/-- Two rows of 128 side by side. -/
def row2 (c0 c1 : Vec F S1x128 .f32) : FVec F S1x256 .f32 :=
  concatenate S1x256 1 [⟨S1x128, c0⟩, ⟨S1x128, c1⟩] concatenates_S1x128_S1x128_S1x256_d1

/-- A plane of the carried statistics. -/
def plane (v : Vec F S1x8x256 .f32) : FVec F S8x256 .f32 := shapeCast S8x256 v shapeCasts_S1x8x256_S8x256

/-- A statistic as a plane to store. -/
def unplane (v : FVec F S8x256 .f32) : FVec F S1x8x256 .f32 := shapeCast S1x8x256 v shapeCasts_S8x256_S1x8x256

end Cert.KernelIdeal.Tile

end
-- ==== Proof.Point.lean ====
module

public import proofs.«01_k».proof.Proof.Tile
public import Idealize.ShloMosaic.Lib.Pipeline.FrameBody

@[expose] public section

set_option synthInstance.maxSize 4096

noncomputable section

namespace Cert.KernelIdeal.Tile

open Cert.KernelIdeal.Gen
open Idealize.ShloMosaic

variable {F : FTy → Type} [FloatOps F] [Named F]

theorem inb_wBlk (t : ℕ) : ∀ a, ![512 * (t % 3), 0] a + S512x1536.size a ≤ S1536x1536.size a := by
  have ht : t % 3 < 3 := Nat.mod_lt _ (by decide)
  intro a; fin_cases a
  · show 512 * (t % 3) + 512 ≤ 1536; omega
  · show 0 + 1536 ≤ 1536; omega

theorem inb_qBlk (t : ℕ) : ∀ a, ![512 * (t % 3), 0] a + S512x768.size a ≤ S1536x768.size a := by
  have ht : t % 3 < 3 := Nat.mod_lt _ (by decide)
  intro a; fin_cases a
  · show 512 * (t % 3) + 512 ≤ 1536; omega
  · show 0 + 768 ≤ 768; omega

theorem inb_hBlk (k : ℕ) : ∀ a, ![0, 128 * (k % 12)] a + S12x128.size a ≤ S12x1536.size a := by
  have hk : k % 12 < 12 := Nat.mod_lt _ (by decide)
  intro a; fin_cases a
  · show 0 + 12 ≤ 12; omega
  · show 128 * (k % 12) + 128 ≤ 1536; omega

theorem inb_plane (k : ℕ) : ∀ a, ![k % 7, 0, 0] a + S1x8x256.size a ≤ S7x8x256.size a := by
  have hk : k % 7 < 7 := Nat.mod_lt _ (by decide)
  intro a; fin_cases a
  · show k % 7 + 1 ≤ 7; omega
  · show 0 + 8 ≤ 8; omega
  · show 0 + 256 ≤ 256; omega

theorem inb_row (k : ℕ) : ∀ a, ![k % 2, 0] a + S1x128.size a ≤ S2x128.size a := by
  have hk : k % 2 < 2 := Nat.mod_lt _ (by decide)
  intro a; fin_cases a
  · show k % 2 + 1 ≤ 2; omega
  · show 0 + 128 ≤ 128; omega

/-- Rows of tile `t` of the policy weights. -/
def wBlk (x4 : Vec F S1536x1536 .fp8e4m3) (t : ℕ) : Vec F S512x1536 .fp8e4m3 :=
  View.ld (Val := Elt F) (e' := .fp8e4m3) x4 (Rect.unit ![512 * (t % 3), 0] S512x1536.size (inb_wBlk t))

/-- Rows of tile `t` of the reference weights. -/
def qBlk (x5 : Vec F S1536x768 .i8) (t : ℕ) : Vec F S512x768 .i8 :=
  View.ld (Val := Elt F) (e' := .i8) x5 (Rect.unit ![512 * (t % 3), 0] S512x768.size (inb_qBlk t))

/-- Columns of the `k`-th 128 vocabulary rows of the group scales. -/
def hBlk (x6 : Vec F S12x1536 .f32) (k : ℕ) : Vec F S12x128 .f32 :=
  View.ld (Val := Elt F) (e' := .f32) x6 (Rect.unit ![0, 128 * (k % 12)] S12x128.size (inb_hBlk k))

/-- The scales of the `k`-th 128 vocabulary rows of the point. -/
def gRow (i : grid0.Coords) (x3 : Vec F S1188x128 .f32) (k : ℕ) : Vec F S1x128 .f32 :=
  View.ld (Val := Elt F) (e' := .f32) x3 (Rect.unit (k0_off1 i (BitVec.ofNat 32 (k % 12))) S1x128.size
    (k0_off1_inb i ⟨k % 12, Nat.mod_lt _ (by decide)⟩))

/-- Plane `k` of the carried statistics. -/
def planeAt (x : Vec F S7x8x256 .f32) (k : ℕ) : FVec F S8x256 .f32 :=
  plane (View.ld (Val := Elt F) (e' := .f32) x (Rect.unit ![k % 7, 0, 0] S1x8x256.size (inb_plane k)))

/-- Row `k` of a 2 x 128 array. -/
def rowF (x : Vec F S2x128 .f32) (k : ℕ) : Vec F S1x128 .f32 :=
  View.ld (Val := Elt F) (e' := .f32) x (Rect.unit ![k % 2, 0] S1x128.size (inb_row k))

def rowI (x : Vec F S2x128 .i32) (k : ℕ) : Vec F S1x128 .i32 :=
  View.ld (Val := Elt F) (e' := .i32) x (Rect.unit ![k % 2, 0] S1x128.size (inb_row k))

/-- The statistics read from the carried array. -/
def St.ofPlanes (x : Vec F S7x8x256 .f32) : St F where
  mp := planeAt x 0
  mq := planeAt x 1
  sp := planeAt x 2
  sq := planeAt x 3
  t := planeAt x 4
  tp := planeAt x 5
  tq := planeAt x 6

/-- Policy logits of tile `t` of a grid point. -/
def ypAt (i : grid0.Coords) (x3 : Vec F S1188x128 .f32) (x4 : Vec F S1536x1536 .fp8e4m3)
    (xt : Vec F S1536x256 .fp8e4m3) (cp : Vec F S2x128 .f32) (t : ℕ) : FVec F S512x256 .f32 :=
  ypOf (wBlk x4 t) (View.ld (Val := Elt F) (e' := .fp8e4m3) xt (Rect.unit ![0, 0] S1536x256.size inb_S1536x256_S1536x256_0_0))
    (gRow i x3 (4 * t)) (gRow i x3 (4 * t + 1)) (gRow i x3 (4 * t + 2)) (gRow i x3 (4 * t + 3))
    (row2 (rowF cp 0) (rowF cp 1))

/-- Reference logits of tile `t` of a grid point. -/
def yqAt (x5 : Vec F S1536x768 .i8) (x6 : Vec F S12x1536 .f32) (ev od : Vec F S768x256 .bf16) (t : ℕ) :
    FVec F S512x256 .f32 :=
  yqOf (qBlk x5 t) (hBlk x6 (4 * t)) (hBlk x6 (4 * t + 1)) (hBlk x6 (4 * t + 2)) (hBlk x6 (4 * t + 3))
    (View.ld (Val := Elt F) (e' := .bf16) ev (Rect.unit ![0, 0] S768x256.size inb_S768x256_S768x256_0_0))
    (View.ld (Val := Elt F) (e' := .bf16) od (Rect.unit ![0, 0] S768x256.size inb_S768x256_S768x256_0_0))

/-- The three tiles of a grid point. -/
def point (i : grid0.Coords) (x2 : Vec F S2x128 .i32) (x3 : Vec F S1188x128 .f32) (x4 : Vec F S1536x1536 .fp8e4m3)
    (x5 : Vec F S1536x768 .i8) (x6 : Vec F S12x1536 .f32) (xt : Vec F S1536x256 .fp8e4m3)
    (ev od : Vec F S768x256 .bf16) (cp : Vec F S2x128 .f32) (st : St F) : St F :=
  scan (fun t st => tile (512 * t) (relOf i (rowI x2 0) (rowI x2 1)) (ypAt i x3 x4 xt cp t) (yqAt x5 x6 ev od t) st) st 3

/-- The carried array as seven written planes, last first. -/
def St.pieces (s : St F) : List (View.Piece (Elt F) S7x8x256 .f32) :=
  [⟨Rect.unit ![6, 0, 0] S1x8x256.size inb_S7x8x256_S1x8x256_6_0_0, unplane s.tq⟩,
   ⟨Rect.unit ![5, 0, 0] S1x8x256.size inb_S7x8x256_S1x8x256_5_0_0, unplane s.tp⟩,
   ⟨Rect.unit ![4, 0, 0] S1x8x256.size inb_S7x8x256_S1x8x256_4_0_0, unplane s.t⟩,
   ⟨Rect.unit ![3, 0, 0] S1x8x256.size inb_S7x8x256_S1x8x256_3_0_0, unplane s.sq⟩,
   ⟨Rect.unit ![2, 0, 0] S1x8x256.size inb_S7x8x256_S1x8x256_2_0_0, unplane s.sp⟩,
   ⟨Rect.unit ![1, 0, 0] S1x8x256.size inb_S7x8x256_S1x8x256_1_0_0, unplane s.mq⟩,
   ⟨Rect.unit ![0, 0, 0] S1x8x256.size inb_S7x8x256_S1x8x256_0_0_0, unplane s.mp⟩]

theorem inb_batch (b : ℕ) : ∀ a, ![b % 2, 0, 0] a + S1x128x1536.size a ≤ S2x128x1536.size a := by
  have hb : b % 2 < 2 := Nat.mod_lt _ (by decide)
  intro a; fin_cases a
  · show b % 2 + 1 ≤ 2; omega
  · show 0 + 128 ≤ 128; omega
  · show 0 + 1536 ≤ 1536; omega

/-- One batch of an argument. -/
def batch (x : Vec F S2x128x1536 .bf16) (b : ℕ) : Vec F S1x128x1536 .bf16 :=
  View.ld (Val := Elt F) (e' := .bf16) x (Rect.unit ![b % 2, 0, 0] S1x128x1536.size (inb_batch b))

def widen (v : Vec F S1x128x1536 .bf16) : FVec F S128x1536 .f32 :=
  extf .f32 (shapeCast S128x1536 v shapeCasts_S1x128x1536_S128x1536 : FVec F S128x1536 .bf16) bitsLt_bf16_f32

/-- The largest magnitude of each row over 448. -/
def quot (v : Vec F S1x128x1536 .bf16) : FVec F S128x1 .f32 :=
  mulf (shapeCast S128x1 (multiReduction .maximumf [1] S128 (absf (widen v)) 0xFF800000#32 reduces_S128x1536_S128
    (.inl rfl) rfl : FVec F S128 .f32) shapeCasts_S128_S128x1) (broadcast S128x1 (Scalar.ofBits .f32 0x3B124925#32))

/-- The biased exponent, bit by bit from the highest. -/
def search (q : FVec F S128x1 .f32) : IVec S128x1 32 :=
  scan (fun k b => select (cmpf .olt q (bitcastToFloat .f32
      (shli (addi b (broadcast S128x1 (BitVec.ofNat 32 (2 ^ (7 - k))))) (broadcast S128x1 23#32)))) b
    (addi b (broadcast S128x1 (BitVec.ofNat 32 (2 ^ (7 - k)))))) (broadcast S128x1 0#32) 8

/-- The exponent of the row's scale. -/
def expo (b : IVec S128x1 32) : IVec S128x1 32 :=
  select (cmpi .eq b (broadcast S128x1 0#32)) (broadcast S128x1 0#32) (subi b (broadcast S128x1 126#32))

def codesOf (v : Vec F S1x128x1536 .bf16) : FVec F S128x1536 .fp8e4m3 :=
  truncf .fp8e4m3 (minimumf (broadcast S128x1536 (Scalar.ofBits .f32 0x43E00000#32))
    (maximumf (broadcast S128x1536 (Scalar.ofBits .f32 0xC3E00000#32))
      (mulf (widen v) (broadcastTo S128x1536 (bitcastToFloat .f32 (shli (subi (broadcast S128x1 127#32)
        (expo (search (quot v)))) (broadcast S128x1 23#32)) : FVec F S128x1 .f32) broadcasts_S128x1_S128x1536))))
    bitsLt_fp8e4m3_f32

def scaleRow (v : Vec F S1x128x1536 .bf16) : FVec F S1x128 .f32 :=
  extractStridedSlice S1x128 ![0, 0] (transpose S128x128 [1, 0] (broadcastTo S128x128 (shapeCast S128x1
    (bitcastToFloat .f32 (shli (addi (broadcast S128x1 127#32) (expo (search (quot v)))) (broadcast S128x1 23#32)) :
      FVec F S128x1 .f32) shapeCasts_S128x1_S128x1) broadcasts_S128x1_S128x128) transposes_S128x128_p1_0_S128x128)
    slices_S128x128_o0_0_S1x128

def codesT (v : Vec F S1x128x1536 .bf16) : FVec F S1536x128 .fp8e4m3 :=
  shapeCast S1536x128 (truncf .fp8e4m3 (transpose S1536x128 [1, 0] (extf .f32 (codesOf v) bitsLt_fp8e4m3_f32)
    transposes_S128x1536_p1_0_S1536x128) bitsLt_fp8e4m3_f32) shapeCasts_S1536x128_S1536x128

def parity (p : Fin 2) (v : Vec F S1x128x1536 .bf16) : FVec F S768x128 .bf16 :=
  shapeCast S768x128 (truncf .bf16 (extf .f32 (rowsOfParity p S768x128 (transpose S1536x128 [1, 0]
    (shapeCast S128x1536 v shapeCasts_S1x128x1536_S128x1536 : FVec F S128x1536 .bf16)
    transposes_S128x1536_p1_0_S1536x128) bitcasts_S1536x128_w16_S768x128_w32 : FVec F S768x128 .bf16) bitsLt_bf16_f32)
    bitsLt_bf16_f32) shapeCasts_S768x128_S768x128

/-- The codes' two batches, last first. -/
def codesP (x : Vec F S2x128x1536 .bf16) : List (View.Piece (Elt F) S2x128x1536 .fp8e4m3) :=
  [⟨Rect.unit ![1, 0, 0] S1x128x1536.size inb_S2x128x1536_S1x128x1536_1_0_0,
      shapeCast S1x128x1536 (codesOf (batch x 1)) shapeCasts_S128x1536_S1x128x1536⟩,
   ⟨Rect.unit ![0, 0, 0] S1x128x1536.size inb_S2x128x1536_S1x128x1536_0_0_0,
      shapeCast S1x128x1536 (codesOf (batch x 0)) shapeCasts_S128x1536_S1x128x1536⟩]

def scalesP (x : Vec F S2x128x1536 .bf16) : List (View.Piece (Elt F) S2x128 .f32) :=
  [⟨Rect.unit ![1, 0] S1x128.size inb_S2x128_S1x128_1_0, scaleRow (batch x 1)⟩,
   ⟨Rect.unit ![0, 0] S1x128.size inb_S2x128_S1x128_0_0, scaleRow (batch x 0)⟩]

def xtP (x : Vec F S2x128x1536 .bf16) : List (View.Piece (Elt F) S1536x256 .fp8e4m3) :=
  [⟨Rect.unit ![0, 128] S1536x128.size inb_S1536x256_S1536x128_0_128, codesT (batch x 1)⟩,
   ⟨Rect.unit ![0, 0] S1536x128.size inb_S1536x256_S1536x128_0_0, codesT (batch x 0)⟩]

def parP (p : Fin 2) (x : Vec F S2x128x1536 .bf16) : List (View.Piece (Elt F) S768x256 .bf16) :=
  [⟨Rect.unit ![0, 128] S768x128.size inb_S768x256_S768x128_0_128, parity p (batch x 1)⟩,
   ⟨Rect.unit ![0, 0] S768x128.size inb_S768x256_S768x128_0_0, parity p (batch x 0)⟩]

/-- The scales in units of `log2 e`. -/
def cpOf (s : Vec F S2x128 .f32) : FVec F S2x128 .f32 :=
  shapeCast S2x128 (mulf (shapeCast S2x128
    (View.ld (Val := Elt F) (e' := .f32) s (Rect.unit ![0, 0] S2x128.size inb_S2x128_S2x128_0_0))
    shapeCasts_S2x128_S2x128 : FVec F S2x128 .f32) (broadcast S2x128 (Named.named κ "log2e" 0x3FB8AA3B#32)))
    shapeCasts_S2x128_S2x128

def cpP (s : Vec F S2x128 .f32) : List (View.Piece (Elt F) S2x128 .f32) :=
  [⟨Rect.unit ![0, 0] S2x128.size inb_S2x128_S2x128_0_0, cpOf s⟩]

/-- The statistics before the first tile. -/
def initP : List (View.Piece (Elt F) S7x8x256 .f32) :=
  [⟨Rect.unit ![2, 0, 0] S5x8x256.size inb_S7x8x256_S5x8x256_2_0_0, shapeCast S5x8x256
      (broadcast S5x8x256 (Scalar.ofBits .f32 0x00000000#32) : FVec F S5x8x256 .f32) shapeCasts_S5x8x256_S5x8x256⟩,
   ⟨Rect.unit ![0, 0, 0] S2x8x256.size inb_S7x8x256_S2x8x256_0_0_0, shapeCast S2x8x256
      (broadcast S2x8x256 (Scalar.ofBits .f32 0xF149F2CA#32) : FVec F S2x8x256 .f32) shapeCasts_S2x8x256_S2x8x256⟩]

/-! The last point's reduction over the eight sublanes. -/

def colMax (m : FVec F S8x256 .f32) : FVec F S1x256 .f32 :=
  shapeCast S1x256 (multiReduction .maximumf [0] S256 m 0xFF800000#32 reduces_S8x256_S256 (.inl rfl) rfl : FVec F S256 .f32)
    shapeCasts_S256_S1x256

def colSum (m : FVec F S8x256 .f32) : FVec F S1x256 .f32 :=
  shapeCast S1x256 (multiReduction .add [0] S256 m 0x00000000#32 reduces_S8x256_S256 (.inl rfl) rfl : FVec F S256 .f32)
    shapeCasts_S256_S1x256

/-- A running maximum less the largest of the sublanes'. -/
def below (m : FVec F S8x256 .f32) : FVec F S8x256 .f32 :=
  subf m (broadcastTo S8x256 (colMax m) broadcasts_S1x256_S8x256)

def total (m s : FVec F S8x256 .f32) : FVec F S1x256 .f32 := colSum (mulf (exp2 (below m)) s)

def logTotal (m s : FVec F S8x256 .f32) : FVec F S1x256 .f32 :=
  mulf (log (total m s)) (broadcast S1x256 (Named.named κ "log2e" 0x3FB8AA3B#32))

def outLog (m s h : FVec F S8x256 .f32) : FVec F S1x256 .f32 :=
  mulf (subf (subf (colSum h) (colMax m)) (logTotal m s)) (broadcast S1x256 (Named.named κ "ln2" 0x3F317218#32))

def outKl (st : St F) : FVec F S1x256 .f32 :=
  mulf (addf (subf (divf
        (colSum (mulf (exp2 (below st.mp)) (addf st.t (mulf st.sp (subf (below st.mp) (below st.mq))))))
        (total st.mp st.sp)) (logTotal st.mp st.sp)) (logTotal st.mq st.sq))
    (broadcast S1x256 (Named.named κ "ln2" 0x3F317218#32))

/-- The two halves of a row as the rows of the result, last first. -/
def rowsP (v : FVec F S1x256 .f32) : List (View.Piece (Elt F) S2x128 .f32) :=
  [⟨Rect.unit ![1, 0] S1x128.size inb_S2x128_S1x128_1_0, extractStridedSlice S1x128 ![0, 128] v slices_S1x256_o0_128_S1x128⟩,
   ⟨Rect.unit ![0, 0] S1x128.size inb_S2x128_S1x128_0_0, extractStridedSlice S1x128 ![0, 0] v slices_S1x256_o0_0_S1x128⟩]

end Cert.KernelIdeal.Tile

end
-- ==== Proof.Online.lean ====
module

public import Idealize.ShloMosaic.PureOps.Ideal
public import Mathlib.Data.EReal.Operations
public import Mathlib.Analysis.SpecialFunctions.Pow.Real
public import Mathlib.Algebra.BigOperators.Intervals

@[expose] public section

noncomputable section

namespace Cert.Online

open Idealize.ShloMosaic Idealize.ShloMosaic.Ideal Finset

/-- `1 / log 2`. -/
def l2e : ℝ := (Real.log 2)⁻¹

theorem log2_pos : 0 < Real.log 2 := Real.log_pos (by norm_num)
theorem l2e_pos : 0 < l2e := inv_pos.2 log2_pos

theorem weight {y m : EReal} (h : y ≤ m) (hb : m ≠ ⊥) : ∃ a : ℝ, 0 ≤ a ∧ exp2 (y - m) = a := by
  induction m with
  | bot => exact absurd rfl hb
  | top => exact ⟨0, le_rfl, by rw [EReal.sub_top, exp2_bot]; rfl⟩
  | coe m =>
    induction y with
    | bot => exact ⟨0, le_rfl, by rw [EReal.bot_sub, exp2_bot]; rfl⟩
    | top => exact absurd (top_le_iff.1 h) (EReal.coe_ne_top m)
    | coe y => exact ⟨(2 : ℝ) ^ (y - m), Real.rpow_nonneg (by norm_num) _, by rw [← EReal.coe_sub, exp2_coe]; rfl⟩

theorem rescale {y m m' : EReal} (h : y ≤ m) (h' : m ≤ m') (hb : m ≠ ⊥) :
    exp2 (m - m') * exp2 (y - m) = exp2 (y - m') := by
  induction m' with
  | bot => exact absurd (le_bot_iff.1 h') hb
  | top => rw [EReal.sub_top, EReal.sub_top, exp2_bot, zero_mul]
  | coe m' =>
    induction m with
    | bot => exact absurd rfl hb
    | top => exact absurd (top_le_iff.1 h') (EReal.coe_ne_top m')
    | coe m =>
      induction y with
      | bot => rw [EReal.bot_sub, EReal.bot_sub, exp2_bot, mul_zero]
      | top => exact absurd (top_le_iff.1 h) (EReal.coe_ne_top m)
      | coe y =>
        rw [← EReal.coe_sub, ← EReal.coe_sub, ← EReal.coe_sub, exp2_coe, exp2_coe, exp2_coe, ← EReal.coe_mul]
        show ((2 : ℝ) ^ (m - m') * (2 : ℝ) ^ (y - m) : ℝ) = (((2 : ℝ) ^ (y - m') : ℝ) : EReal)
        rw [← Real.rpow_add (by norm_num)]; congr 2; ring

theorem coe_mul_sum {ι : Type*} {a : ℝ} (ha : 0 ≤ a) (f : ι → EReal) (I : Finset ι) :
    (a : EReal) * ∑ v ∈ I, f v = ∑ v ∈ I, a * f v := by
  classical
  induction I using Finset.induction_on with
  | empty => simp
  | insert v I hv ih =>
    rw [sum_insert hv, sum_insert hv, ← ih]
    exact EReal.left_distrib_of_nonneg_of_ne_top (by exact_mod_cast ha) (EReal.coe_ne_top a) _ _

theorem sum_mul {ι : Type*} (f : ι → EReal) (c : EReal) (I : Finset ι) (hf : ∀ v ∈ I, 0 ≤ f v) :
    (∑ v ∈ I, f v) * c = ∑ v ∈ I, f v * c := by
  classical
  induction I using Finset.induction_on with
  | empty => simp
  | insert v I hv ih =>
    rw [sum_insert hv, sum_insert hv, ← ih fun w hw => hf w (mem_insert_of_mem hw)]
    exact EReal.right_distrib_of_nonneg (hf v (mem_insert_self v I))
      (sum_nonneg fun w hw => hf w (mem_insert_of_mem hw))

theorem coe_sum {ι : Type*} (f : ι → ℝ) (I : Finset ι) : ((∑ v ∈ I, f v : ℝ) : EReal) = ∑ v ∈ I, (f v : EReal) := by
  classical
  induction I using Finset.induction_on with
  | empty => simp
  | insert v I hv ih => rw [sum_insert hv, sum_insert hv, EReal.coe_add, ih]

/-- The weighted difference of one entry. -/
def diff (yp yq mp mq : EReal) : EReal := exp2 (yp - mp) * ((yp - mp) - (yq - mq))

theorem rescale_diff {yp mp mp' yq mq mq' : EReal} (hp : yp ≤ mp) (hp' : mp ≤ mp') (hpb : mp ≠ ⊥)
    (hq : yq ≤ mq) (hq' : mq ≤ mq') (hqb : mq ≠ ⊥) :
    exp2 (mp - mp') * (diff yp yq mp mq + exp2 (yp - mp) * ((mp - mp') - (mq - mq'))) = diff yp yq mp' mq' := by
  unfold diff
  induction mp' with
  | bot => exact absurd (le_bot_iff.1 hp') hpb
  | top => rw [EReal.sub_top, EReal.sub_top, exp2_bot, zero_mul, zero_mul]
  | coe mp' =>
    induction mp with
    | bot => exact absurd rfl hpb
    | top => exact absurd (top_le_iff.1 hp') (EReal.coe_ne_top mp')
    | coe mp =>
      induction yp with
      | bot => simp only [EReal.bot_sub, exp2_bot, zero_mul, add_zero, mul_zero]
      | top => exact absurd (top_le_iff.1 hp) (EReal.coe_ne_top mp)
      | coe yp =>
        have pos : ∀ x : ℝ, (0 : ℝ) < (2 : ℝ) ^ x := fun x => Real.rpow_pos_of_pos (by norm_num) x
        have pow : ∀ x : ℝ, exp2 (x : EReal) = (((2 : ℝ) ^ x : ℝ) : EReal) := fun x => rfl
        simp only [← EReal.coe_sub, pow]
        have tops : ∀ x : ℝ, (((2 : ℝ) ^ x : ℝ) : EReal) * ⊤ = ⊤ := fun x => EReal.coe_mul_top_of_pos (pos x)
        induction mq' with
        | bot => exact absurd (le_bot_iff.1 hq') hqb
        | top =>
          rw [EReal.sub_top, EReal.sub_top]
          induction mq with
          | bot => exact absurd rfl hqb
          | top => simp only [EReal.sub_top, EReal.coe_sub_bot, tops, EReal.top_add_top]
          | coe mq =>
            induction yq with
            | bot => simp only [EReal.bot_sub, EReal.coe_sub_bot, tops, EReal.top_add_top]
            | top => exact absurd (top_le_iff.1 hq) (EReal.coe_ne_top mq)
            | coe yq =>
              simp only [← EReal.coe_sub, EReal.coe_sub_bot, tops, ← EReal.coe_mul, EReal.coe_add_top]
        | coe mq' =>
          induction mq with
          | bot => exact absurd rfl hqb
          | top => exact absurd (top_le_iff.1 hq') (EReal.coe_ne_top mq')
          | coe mq =>
            induction yq with
            | bot => simp only [EReal.bot_sub, EReal.coe_sub_bot, tops, ← EReal.coe_sub, ← EReal.coe_mul, EReal.top_add_coe]
            | top => exact absurd (top_le_iff.1 hq) (EReal.coe_ne_top mq)
            | coe yq =>
              simp only [← EReal.coe_sub, ← EReal.coe_mul, ← EReal.coe_add]
              have e : (2 : ℝ) ^ (yp - mp') = (2 : ℝ) ^ (mp - mp') * (2 : ℝ) ^ (yp - mp) := by
                rw [← Real.rpow_add (by norm_num)]; congr 1; ring
              rw [e]; congr 1; ring

/-- The sum of the weights of some entries. -/
def wsum {ι : Type*} (y : ι → EReal) (I : Finset ι) (m : EReal) : EReal := ∑ v ∈ I, exp2 (y v - m)

/-- The weighted sum of differences of some entries. -/
def dsum {ι : Type*} (yp yq : ι → EReal) (I : Finset ι) (mp mq : EReal) : EReal :=
  ∑ v ∈ I, diff (yp v) (yq v) mp mq

theorem wsum_rescale {ι : Type*} (y : ι → EReal) (I : Finset ι) {m m' : EReal} (h : ∀ v ∈ I, y v ≤ m) (h' : m ≤ m')
    (hb : m ≠ ⊥) : exp2 (m - m') * wsum y I m = wsum y I m' := by
  obtain ⟨a, ha, e⟩ := weight h' (ne_bot_of_le_ne_bot hb h')
  unfold wsum
  rw [e, coe_mul_sum ha, ← e]
  exact sum_congr rfl fun v hv => rescale (h v hv) h' hb

theorem dsum_rescale {ι : Type*} (yp yq : ι → EReal) (I : Finset ι) {mp mp' mq mq' : EReal}
    (hp : ∀ v ∈ I, yp v ≤ mp) (hp' : mp ≤ mp') (hpb : mp ≠ ⊥)
    (hq : ∀ v ∈ I, yq v ≤ mq) (hq' : mq ≤ mq') (hqb : mq ≠ ⊥) :
    exp2 (mp - mp') * (dsum yp yq I mp mq + wsum yp I mp * ((mp - mp') - (mq - mq'))) = dsum yp yq I mp' mq' := by
  obtain ⟨a, ha, e⟩ := weight hp' (ne_bot_of_le_ne_bot hpb hp')
  unfold dsum wsum
  rw [sum_mul _ _ _ fun v hv => by
      obtain ⟨b, hb, e⟩ := weight (hp v hv) hpb; rw [e]; exact_mod_cast hb,
    ← sum_add_distrib, e, coe_mul_sum ha, ← e]
  exact sum_congr rfl fun v hv => rescale_diff (hp v hv) hp' hpb (hq v hv) hq' hqb

/-- The entry that is hit, or zero. -/
def pick {ι : Type*} (hit : ι → Prop) [DecidablePred hit] (y : ι → EReal) (I : Finset ι) : EReal :=
  ∑ v ∈ I, if hit v then y v else 0

/-! One entry's weights against the plain exponential. -/

theorem exp2_shift {z M : EReal} {m M' : ℝ} (hz : z ≤ m) (hM : M = M') :
    exp2 ((l2e : EReal) * z - M) = ((Real.exp (m - M' * Real.log 2) : ℝ) : EReal) * exp (z - m) := by
  subst hM
  induction z with
  | bot => rw [EReal.coe_mul_bot_of_pos l2e_pos, EReal.bot_sub, EReal.bot_sub, exp2_bot, exp_bot, mul_zero]
  | top => exact absurd (top_le_iff.1 hz) (EReal.coe_ne_top m)
  | coe z =>
    rw [← EReal.coe_mul, ← EReal.coe_sub, ← EReal.coe_sub, exp2_coe, exp_coe, ← EReal.coe_mul, ← Real.exp_add]
    congr 1
    show (2 : ℝ) ^ (l2e * z - M') = _
    rw [Real.rpow_def_of_pos (by norm_num)]
    congr 1
    have : l2e * Real.log 2 = 1 := inv_mul_cancel₀ log2_pos.ne'
    linear_combination z * this

section Final

variable {ι : Type*} [Fintype ι]

theorem log_zero : log (0 : EReal) = ⊥ := by
  rw [← EReal.coe_zero, log_coe, if_pos le_rfl]

/-- The largest entry, at least `N`. -/
theorem max_real {z : ι → EReal} {N : ℝ} {m : ℝ} (hm : univ.sup z = m) :
    ∃ M : ℝ, max (N : EReal) (univ.sup fun v => (l2e : EReal) * z v) = M := by
  have hle : ∀ v, (l2e : EReal) * z v ≤ ((l2e * m : ℝ) : EReal) := fun v => by
    rw [EReal.coe_mul]
    exact mul_le_mul_of_nonneg_left (hm ▸ le_sup (mem_univ v)) (by exact_mod_cast l2e_pos.le)
  have h1 : max (N : EReal) (univ.sup fun v => (l2e : EReal) * z v) ≤ ((max N (l2e * m) : ℝ) : EReal) := by
    refine max_le (by exact_mod_cast le_max_left _ _) (Finset.sup_le fun v _ => (hle v).trans ?_)
    exact_mod_cast le_max_right _ _
  have h2 : (N : EReal) ≤ max (N : EReal) (univ.sup fun v => (l2e : EReal) * z v) := le_max_left _ _
  generalize max (N : EReal) (univ.sup fun v => (l2e : EReal) * z v) = M at h1 h2
  induction M with
  | bot => exact absurd (le_bot_iff.1 h2) (EReal.coe_ne_bot N)
  | top => exact absurd (top_le_iff.1 h1) (EReal.coe_ne_top _)
  | coe M => exact ⟨M, rfl⟩

variable [Nonempty ι]

/-- With no finite largest entry every weight is zero. -/
theorem weights_zero {z : ι → EReal} {N : ℝ} (h : univ.sup z = ⊤ ∨ univ.sup z = ⊥) (v : ι) :
    exp2 ((l2e : EReal) * z v - max (N : EReal) (univ.sup fun v => (l2e : EReal) * z v)) = 0 ∧
      exp (z v - univ.sup z) = 0 := by
  rcases h with h | h
  · obtain ⟨w, _, hw⟩ := exists_mem_eq_sup univ univ_nonempty z
    have : max (N : EReal) (univ.sup fun v => (l2e : EReal) * z v) = ⊤ := by
      refine top_le_iff.1 (le_max_of_le_right (le_trans ?_ (le_sup (mem_univ w))))
      rw [← hw, h, EReal.coe_mul_top_of_pos l2e_pos]
    rw [this, h, EReal.sub_top, EReal.sub_top]; exact ⟨exp2_bot, exp_bot⟩
  · have : z v = ⊥ := le_bot_iff.1 (h ▸ le_sup (mem_univ v))
    rw [this, EReal.coe_mul_bot_of_pos l2e_pos, EReal.bot_sub, EReal.bot_sub]; exact ⟨exp2_bot, exp_bot⟩

/-- With a finite largest entry the sums are real, and differ by one factor. -/
theorem sums_real {z : ι → EReal} {m M : ℝ} (hm : univ.sup z = m) :
    ∃ a : ι → ℝ, (∀ v, 0 ≤ a v) ∧ (∀ v, exp (z v - m) = a v) ∧ 0 < ∑ v, a v ∧
      ∀ v, exp2 ((l2e : EReal) * z v - M) = ((Real.exp (m - M * Real.log 2) * a v : ℝ) : EReal) := by
  have hle : ∀ v, z v ≤ m := fun v => hm ▸ le_sup (mem_univ v)
  have : ∀ v, ∃ a : ℝ, 0 ≤ a ∧ exp (z v - m) = a := fun v => by
    have := hle v
    generalize z v = x at this
    induction x with
    | bot => exact ⟨0, le_rfl, by rw [EReal.bot_sub, exp_bot]; rfl⟩
    | top => exact absurd (top_le_iff.1 this) (EReal.coe_ne_top m)
    | coe x => exact ⟨_, (Real.exp_pos (x - m)).le, by rw [← EReal.coe_sub, exp_coe]⟩
  choose a h0 ha using this
  refine ⟨a, h0, ha, ?_, fun v => by rw [exp2_shift (hle v) rfl, ha, EReal.coe_mul]⟩
  obtain ⟨w, _, hw⟩ := exists_mem_eq_sup univ univ_nonempty z
  have h1 : a w = 1 := by
    have := ha w
    rw [← hw, hm, ← EReal.coe_sub, exp_coe, sub_self, Real.exp_zero] at this
    exact_mod_cast this.symm
  exact lt_of_lt_of_le (by rw [h1]; norm_num) (single_le_sum (fun v _ => h0 v) (mem_univ w))

theorem wsum_eq {z : ι → EReal} {m M : ℝ} {a : ι → ℝ}
    (h : ∀ v, exp2 ((l2e : EReal) * z v - M) = ((Real.exp (m - M * Real.log 2) * a v : ℝ) : EReal)) :
    wsum (fun v => (l2e : EReal) * z v) univ (M : EReal) = ((Real.exp (m - M * Real.log 2) * ∑ v, a v : ℝ) : EReal) := by
  unfold wsum
  rw [sum_congr rfl fun v _ => h v, ← coe_sum, mul_sum]

theorem log_wsum {m M s : ℝ} (hs : 0 < s) :
    log ((Real.exp (m - M * Real.log 2) * s : ℝ) : EReal) = ((m - M * Real.log 2 + Real.log s : ℝ) : EReal) := by
  rw [log_coe, if_neg (not_le.2 (mul_pos (Real.exp_pos _) hs)), Real.log_mul (Real.exp_pos _).ne' hs.ne', Real.log_exp]

theorem log_pos_coe {s : ℝ} (hs : 0 < s) : log (s : EReal) = (Real.log s : EReal) := by
  rw [log_coe, if_neg (not_le.2 hs)]

theorem l2e_log2 : l2e * Real.log 2 = 1 := inv_mul_cancel₀ log2_pos.ne'

/-- The log-probability in units of `log 2` against the plain one. -/
theorem logp_eq (z : ι → EReal) (N : ℝ) (h : EReal) :
    (((l2e : EReal) * h - max (N : EReal) (univ.sup fun v => (l2e : EReal) * z v)) -
        log (wsum (fun v => (l2e : EReal) * z v) univ (max (N : EReal) (univ.sup fun v => (l2e : EReal) * z v))) *
          (l2e : EReal)) * ((Real.log 2 : ℝ) : EReal) =
      (h - univ.sup z) - log (∑ v, exp (z v - univ.sup z)) := by
  by_cases hd : univ.sup z = ⊤ ∨ univ.sup z = ⊥
  · have e1 : wsum (fun v => (l2e : EReal) * z v) univ (max (N : EReal) (univ.sup fun v => (l2e : EReal) * z v)) = 0 :=
      sum_eq_zero fun v _ => (weights_zero hd v).1
    have e2 : ∑ v, exp (z v - univ.sup z) = 0 := sum_eq_zero fun v _ => (weights_zero (N := N) hd v).2
    rw [e1, e2, log_zero, EReal.bot_mul_coe_of_pos l2e_pos]
    rcases hd with hd | hd
    · have : max (N : EReal) (univ.sup fun v => (l2e : EReal) * z v) = ⊤ := by
        obtain ⟨w, _, hw⟩ := exists_mem_eq_sup univ univ_nonempty z
        refine top_le_iff.1 (le_max_of_le_right (le_trans ?_ (le_sup (mem_univ w))))
        rw [← hw, hd, EReal.coe_mul_top_of_pos l2e_pos]
      rw [this, hd, EReal.sub_top, EReal.sub_top, EReal.bot_sub, EReal.bot_mul_coe_of_pos log2_pos]
    · have : max (N : EReal) (univ.sup fun v => (l2e : EReal) * z v) = N := by
        refine max_eq_left (Finset.sup_le fun v _ => ?_)
        have hv : z v = ⊥ := le_bot_iff.1 (hd ▸ le_sup (mem_univ v))
        rw [hv, EReal.coe_mul_bot_of_pos l2e_pos]; exact bot_le
      rw [this, hd]
      induction h with
      | bot => simp only [EReal.coe_mul_bot_of_pos l2e_pos, EReal.bot_sub, EReal.bot_mul_coe_of_pos log2_pos]
      | top => simp only [EReal.coe_mul_top_of_pos l2e_pos, EReal.top_sub_coe, EReal.top_sub_bot,
          EReal.top_mul_coe_of_pos log2_pos]
      | coe h => rw [← EReal.coe_mul, ← EReal.coe_sub, EReal.coe_sub_bot, EReal.coe_sub_bot,
          EReal.top_sub_bot, EReal.top_mul_coe_of_pos log2_pos]
  · push Not at hd
    obtain ⟨m, hm⟩ : ∃ m : ℝ, univ.sup z = m := ⟨_, (EReal.coe_toReal hd.1 hd.2).symm⟩
    obtain ⟨M, hM⟩ := max_real (N := N) hm
    obtain ⟨a, h0, ha, hs, hk⟩ := sums_real (M := M) hm
    rw [hM, wsum_eq hk, log_wsum hs, hm, sum_congr rfl fun v _ => ha v, ← coe_sum, log_pos_coe hs]
    induction h with
    | bot => simp only [EReal.coe_mul_bot_of_pos l2e_pos, EReal.bot_sub, EReal.bot_mul_coe_of_pos log2_pos]
    | top => rw [EReal.coe_mul_top_of_pos l2e_pos, EReal.top_sub_coe, EReal.top_sub_coe, ← EReal.coe_mul, EReal.top_sub_coe,
        EReal.top_sub_coe, EReal.top_mul_coe_of_pos log2_pos]
    | coe h =>
      simp only [← EReal.coe_mul, ← EReal.coe_sub]
      congr 1
      linear_combination (h - m + M * Real.log 2 - Real.log (∑ v, a v)) * l2e_log2

theorem div_zero_zero : div (0 : EReal) 0 = ⊥ := by simp [div]

/-- The divergence in units of `log 2` against the plain one. -/
theorem kl_eq (zp zq : ι → EReal) (N : ℝ) :
    ((div (dsum (fun v => (l2e : EReal) * zp v) (fun v => (l2e : EReal) * zq v) univ
            (max (N : EReal) (univ.sup fun v => (l2e : EReal) * zp v))
            (max (N : EReal) (univ.sup fun v => (l2e : EReal) * zq v)))
          (wsum (fun v => (l2e : EReal) * zp v) univ (max (N : EReal) (univ.sup fun v => (l2e : EReal) * zp v))) -
        log (wsum (fun v => (l2e : EReal) * zp v) univ (max (N : EReal) (univ.sup fun v => (l2e : EReal) * zp v))) *
          (l2e : EReal)) +
        log (wsum (fun v => (l2e : EReal) * zq v) univ (max (N : EReal) (univ.sup fun v => (l2e : EReal) * zq v))) *
          (l2e : EReal)) * ((Real.log 2 : ℝ) : EReal) =
      (div (∑ v, exp (zp v - univ.sup zp) * (zp v - zq v)) (∑ v, exp (zp v - univ.sup zp)) -
        (univ.sup zp + log (∑ v, exp (zp v - univ.sup zp)))) +
        (univ.sup zq + log (∑ v, exp (zq v - univ.sup zq))) := by
  by_cases hd : univ.sup zp = ⊤ ∨ univ.sup zp = ⊥
  · have e1 : wsum (fun v => (l2e : EReal) * zp v) univ (max (N : EReal) (univ.sup fun v => (l2e : EReal) * zp v)) = 0 :=
      sum_eq_zero fun v _ => (weights_zero hd v).1
    have e2 : ∑ v, exp (zp v - univ.sup zp) = 0 := sum_eq_zero fun v _ => (weights_zero (N := N) hd v).2
    have e3 : ∑ v, exp (zp v - univ.sup zp) * (zp v - zq v) = 0 :=
      sum_eq_zero fun v _ => by rw [(weights_zero (N := N) hd v).2, zero_mul]
    have e4 : dsum (fun v => (l2e : EReal) * zp v) (fun v => (l2e : EReal) * zq v) univ
            (max (N : EReal) (univ.sup fun v => (l2e : EReal) * zp v))
            (max (N : EReal) (univ.sup fun v => (l2e : EReal) * zq v)) = 0 :=
      sum_eq_zero fun v _ => by
        show exp2 _ * _ = 0
        rw [(weights_zero hd v).1, zero_mul]
    rw [e1, e2, e3, e4, div_zero_zero, EReal.bot_sub, EReal.bot_add, EReal.bot_sub, EReal.bot_add,
      EReal.bot_mul_coe_of_pos log2_pos]
  by_cases hq : univ.sup zq = ⊤ ∨ univ.sup zq = ⊥
  · have e1 : wsum (fun v => (l2e : EReal) * zq v) univ (max (N : EReal) (univ.sup fun v => (l2e : EReal) * zq v)) = 0 :=
      sum_eq_zero fun v _ => (weights_zero hq v).1
    have e2 : ∑ v, exp (zq v - univ.sup zq) = 0 := sum_eq_zero fun v _ => (weights_zero (N := N) hq v).2
    rw [e1, e2, log_zero, EReal.bot_mul_coe_of_pos l2e_pos, EReal.add_bot, EReal.add_bot, EReal.add_bot,
      EReal.bot_mul_coe_of_pos log2_pos]
  push Not at hd hq
  obtain ⟨m, hm⟩ : ∃ m : ℝ, univ.sup zp = m := ⟨_, (EReal.coe_toReal hd.1 hd.2).symm⟩
  obtain ⟨M, hM⟩ := max_real (N := N) hm
  obtain ⟨a, h0, ha, hs, hk⟩ := sums_real (M := M) hm
  obtain ⟨n, hn⟩ : ∃ n : ℝ, univ.sup zq = n := ⟨_, (EReal.coe_toReal hq.1 hq.2).symm⟩
  obtain ⟨Q, hQ⟩ := max_real (N := N) hn
  obtain ⟨b, -, hb, hu, hl⟩ := sums_real (M := Q) hn
  set c : ℝ := Real.exp (m - M * Real.log 2) with hc
  have hc0 : 0 < c := Real.exp_pos _
  have term : ∀ v, diff ((l2e : EReal) * zp v) ((l2e : EReal) * zq v) M Q =
      (c : EReal) * ((l2e : EReal) * (exp (zp v - m) * (zp v - zq v)) + (((Q - M) * a v : ℝ) : EReal)) := fun v => by
    have hzp : zp v ≤ m := hm ▸ le_sup (mem_univ v)
    have hzq : zq v ≤ n := hn ▸ le_sup (mem_univ v)
    unfold diff
    rw [hk v]
    have hav := ha v
    generalize zp v = x at hzp hav ⊢
    generalize zq v = y at hzq ⊢
    induction x with
    | top => exact absurd (top_le_iff.1 hzp) (EReal.coe_ne_top m)
    | bot =>
      rw [EReal.bot_sub, exp_bot] at hav
      have : a v = 0 := by exact_mod_cast hav.symm
      rw [this, mul_zero, mul_zero, EReal.bot_sub, exp_bot, EReal.coe_zero]
      simp only [zero_mul, mul_zero, add_zero]
    | coe x =>
      have hpos : 0 < a v := by
        rw [← EReal.coe_sub, exp_coe] at hav
        have : a v = Real.exp (x - m) := by exact_mod_cast hav.symm
        rw [this]; exact Real.exp_pos _
      rw [hav]
      induction y with
      | top => exact absurd (top_le_iff.1 hzq) (EReal.coe_ne_top n)
      | bot =>
        rw [EReal.coe_mul_bot_of_pos l2e_pos, EReal.bot_sub, ← EReal.coe_mul, ← EReal.coe_sub, EReal.coe_sub_bot,
          EReal.coe_sub_bot, EReal.coe_mul_top_of_pos (mul_pos hc0 hpos), EReal.coe_mul_top_of_pos hpos,
          EReal.coe_mul_top_of_pos l2e_pos, EReal.top_add_coe, EReal.coe_mul_top_of_pos hc0]
      | coe y =>
        simp only [← EReal.coe_mul, ← EReal.coe_sub, ← EReal.coe_add]
        congr 1; ring
  have hT : dsum (fun v => (l2e : EReal) * zp v) (fun v => (l2e : EReal) * zq v) univ (M : EReal) (Q : EReal) =
      (c : EReal) * ((l2e : EReal) * (∑ v, exp (zp v - m) * (zp v - zq v)) + (((Q - M) * ∑ v, a v : ℝ) : EReal)) := by
    unfold dsum
    rw [sum_congr rfl fun v _ => term v, ← coe_mul_sum hc0.le, sum_add_distrib, coe_mul_sum l2e_pos.le, mul_sum, coe_sum]
  rw [hM, hQ, hT, wsum_eq hk, wsum_eq hl, log_wsum hs, log_wsum hu, hm, hn, sum_congr rfl fun v _ => ha v, ← coe_sum,
    sum_congr rfl fun v _ => hb v, ← coe_sum, log_pos_coe hs, log_pos_coe hu, ← hc]
  generalize (∑ v, exp (zp v - m) * (zp v - zq v)) = t
  have hcs : c * ∑ v, a v ≠ 0 := (mul_pos hc0 hs).ne'
  have i1 : 0 < 1 / (c * ∑ v, a v) := one_div_pos.2 (mul_pos hc0 hs)
  have i2 : 0 < 1 / ∑ v, a v := one_div_pos.2 hs
  rw [div_coe hcs, div_coe hs.ne']
  induction t with
  | bot =>
    rw [EReal.coe_mul_bot_of_pos l2e_pos, EReal.bot_add, EReal.coe_mul_bot_of_pos hc0, EReal.bot_mul_coe_of_pos i1,
      EReal.bot_mul_coe_of_pos i2, EReal.bot_sub, EReal.bot_sub, EReal.bot_add, EReal.bot_add,
      EReal.bot_mul_coe_of_pos log2_pos]
  | top =>
    simp only [EReal.coe_mul_top_of_pos l2e_pos, EReal.top_add_coe, EReal.coe_mul_top_of_pos hc0,
      EReal.top_mul_coe_of_pos i1, EReal.top_mul_coe_of_pos i2, ← EReal.coe_mul, ← EReal.coe_add, EReal.top_sub_coe,
      EReal.top_mul_coe_of_pos log2_pos]
  | coe t =>
    simp only [← EReal.coe_mul, ← EReal.coe_add, ← EReal.coe_sub]
    congr 1
    have hs' := hs.ne'
    have e : c * (l2e * t + (Q - M) * ∑ v, a v) * (1 / (c * ∑ v, a v)) = l2e * t * (1 / ∑ v, a v) + (Q - M) := by
      field_simp
    rw [e]
    linear_combination (t * (1 / ∑ v, a v) - m + M * Real.log 2 - Real.log (∑ v, a v) + n - Q * Real.log 2 + Real.log (∑ v, b v)) * l2e_log2

end Final

end Cert.Online

end
-- ==== Proof.TileVal.lean ====
module

public import proofs.«01_k».proof.Proof.Point
public import proofs.«01_k».proof.Proof.Online
public import Idealize.ShloMosaic.Lib.Pointwise

@[expose] public section

set_option maxRecDepth 16384

noncomputable section

namespace Cert.KernelIdeal.Tile

open Cert.KernelIdeal Cert.KernelIdeal.Gen
open Idealize.ShloMosaic
open Cert.Online Finset

/-! The carried statistics over the extended reals. -/

/-- The running maximum starts here. -/
def low : EReal := Ideal.ofBits .f32 0xF149F2CA#32

/-- The largest of the first `n` entries, at least `low`. -/
def top (y : ℕ → EReal) (n : ℕ) : EReal := max low ((range n).sup y)

theorem low_le_top (y : ℕ → EReal) (n : ℕ) : low ≤ top y n := le_max_left _ _

theorem le_top (y : ℕ → EReal) (n : ℕ) : ∀ v ∈ range n, y v ≤ top y n := fun v hv => le_max_of_le_right (le_sup hv)

theorem top_mono (y : ℕ → EReal) {n k : ℕ} (h : n ≤ k) : top y n ≤ top y k :=
  max_le_max le_rfl (sup_mono (range_mono h))

theorem scan_apply {F : FTy → Type} [FloatOps F] (ix : S8x256.Idx) (f : ℕ → FVec F S8x256 .f32 → FVec F S8x256 .f32)
    (g : ℕ → F .f32 → F .f32) (a : FVec F S8x256 .f32) (n : ℕ) (h : ∀ k < n, ∀ b, f k b ix = g k (b ix)) :
    scan f a n ix = scan g (a ix) n := by
  induction n with
  | zero => rfl
  | succ n ih => rw [scan_succ, scan_succ, h n (Nat.lt_succ_self n), ih fun k hk => h k (Nat.lt_succ_of_lt hk)]

theorem scan_add (f : ℕ → EReal) (a : EReal) (n : ℕ) : scan (fun k b => b + f k) a n = a + ∑ k ∈ range n, f k := by
  induction n with
  | zero => simp [scan_zero]
  | succ n ih => rw [scan_succ, ih, sum_range_succ, add_assoc]

theorem scan_pick (hit : ℕ → Prop) [DecidablePred hit] (y : ℕ → EReal) (one : ∀ i j, hit i → hit j → i = j) (n m : ℕ) :
    scan (fun k b => if hit (n + k) then y (n + k) else b) (pick hit y (range n)) m = pick hit y (range (n + m)) := by
  induction m with
  | zero => rfl
  | succ m ih =>
    rw [scan_succ, ih]
    unfold pick
    rw [← Nat.add_assoc, sum_range_succ]
    by_cases h : hit (n + m)
    · rw [if_pos h, if_pos h, sum_eq_zero, zero_add]
      intro v hv
      rw [if_neg]
      intro hv'
      have := one _ _ h hv'
      have := mem_range.1 hv
      omega
    · rw [if_neg h, if_neg h, add_zero]

theorem rmax_le (y : FVec Ideal S512x256 .f32) (ix : S8x256.Idx) (z : EReal) : ∀ l o : ℕ,
    rmax y l o ix ≤ z ↔ ∀ k < 2 ^ l, (rows8 y (o * 2 ^ l + k) ix : EReal) ≤ z
  | 0, o => by
    show rows8 y o ix ≤ z ↔ _
    constructor
    · intro h k hk
      obtain rfl : k = 0 := by simpa using hk
      simpa using h
    · intro h; simpa using h 0 (by norm_num)
  | l + 1, o => by
    show max (rmax y l (2 * o) ix) (rmax y l (2 * o + 1) ix) ≤ z ↔ _
    rw [max_le_iff, rmax_le y ix z l, rmax_le y ix z l]
    have e1 : ∀ k, o * 2 ^ (l + 1) + k = 2 * o * 2 ^ l + k := fun k => by rw [pow_succ]; ring
    have e2 : ∀ k, (2 * o + 1) * 2 ^ l + k = o * 2 ^ (l + 1) + (2 ^ l + k) := fun k => by rw [pow_succ]; ring
    constructor
    · rintro ⟨h1, h2⟩ k hk
      by_cases hkl : k < 2 ^ l
      · rw [e1]; exact h1 k hkl
      · have := h2 (k - 2 ^ l) (by rw [pow_succ] at hk; omega)
        rw [e2] at this
        rwa [Nat.add_sub_cancel' (not_lt.1 hkl)] at this
    · intro h
      exact ⟨fun k hk => e1 k ▸ h k (by rw [pow_succ]; omega), fun k hk => by rw [e2]; exact h _ (by rw [pow_succ]; omega)⟩

theorem newMax_eq {y : FVec Ideal S512x256 .f32} {m : FVec Ideal S8x256 .f32} {ix : S8x256.Idx} {Y : ℕ → EReal} {n : ℕ}
    (hy : ∀ k < 64, rows8 y k ix = Y (n + k)) (hm : m ix = top Y n) : newMax y m ix = top Y (n + 64) := by
  refine eq_of_forall_ge_iff fun z => ?_
  show max (m ix) (rmax y 6 0 ix) ≤ z ↔ _
  rw [max_le_iff, rmax_le, hm]
  unfold top
  simp only [max_le_iff, Finset.sup_le_iff, mem_range]
  constructor
  · rintro ⟨⟨h1, h2⟩, h3⟩
    refine ⟨h1, fun j hj => ?_⟩
    by_cases hjn : j < n
    · exact h2 j hjn
    · have := h3 (j - n) (by simp; omega)
      rw [Nat.zero_mul, Nat.zero_add, hy _ (by omega), Nat.add_sub_cancel' (not_lt.1 hjn)] at this
      exact this
  · rintro ⟨h1, h2⟩
    refine ⟨⟨h1, fun j hj => h2 j (by omega)⟩, fun k hk => ?_⟩
    have hk : k < 64 := by simpa using hk
    rw [Nat.zero_mul, Nat.zero_add, hy k hk]
    exact h2 _ (by omega)

theorem low_real : ∃ N : ℝ, low = N := by
  unfold low
  simp only [Ideal.ofBits, Ideal.ieee]
  rw [if_neg (by decide), if_neg (by decide)]
  exact ⟨_, rfl⟩

theorem low_ne_bot : low ≠ ⊥ := by
  obtain ⟨N, h⟩ := low_real
  rw [h]; exact EReal.coe_ne_bot N

theorem top_ne_bot (y : ℕ → EReal) (n : ℕ) : top y n ≠ ⊥ := ne_bot_of_le_ne_bot low_ne_bot (low_le_top y n)

theorem newSum_eq {y : FVec Ideal S512x256 .f32} {m s : FVec Ideal S8x256 .f32} {ix : S8x256.Idx} {Y : ℕ → EReal} {n : ℕ}
    (hy : ∀ k < 64, rows8 y k ix = Y (n + k)) (hm : m ix = top Y n) (hs : s ix = wsum Y (range n) (top Y n)) :
    newSum y m s ix = wsum Y (range (n + 64)) (top Y (n + 64)) := by
  unfold newSum
  rw [scan_apply ix _ (fun k b => b + Ideal.exp2 (Y (n + k) - top Y (n + 64))) _ _ fun k hk b => ?_, scan_add]
  · show Ideal.exp2 (m ix - newMax y m ix) * s ix + _ = _
    rw [newMax_eq hy hm, hm, hs, wsum_rescale Y _ (le_top Y n) (top_mono Y (by omega)) (top_ne_bot Y n)]
    exact (sum_range_add _ _ _).symm
  · show b ix + Ideal.exp2 (rows8 y k ix - newMax y m ix) = _
    rw [newMax_eq hy hm, hy k hk]

theorem newT_eq {yp yq : FVec Ideal S512x256 .f32} {mp mq sp t : FVec Ideal S8x256 .f32} {ix : S8x256.Idx}
    {P Q : ℕ → EReal} {n : ℕ} (hp : ∀ k < 64, rows8 yp k ix = P (n + k)) (hq : ∀ k < 64, rows8 yq k ix = Q (n + k))
    (hmp : mp ix = top P n) (hmq : mq ix = top Q n) (hs : sp ix = wsum P (range n) (top P n))
    (ht : t ix = dsum P Q (range n) (top P n) (top Q n)) :
    newT yp yq mp mq sp t ix = dsum P Q (range (n + 64)) (top P (n + 64)) (top Q (n + 64)) := by
  unfold newT
  rw [scan_apply ix _ (fun k b => b + diff (P (n + k)) (Q (n + k)) (top P (n + 64)) (top Q (n + 64))) _ _ fun k hk b => ?_,
    scan_add]
  · show Ideal.exp2 (mp ix - newMax yp mp ix) *
      (t ix + sp ix * ((mp ix - newMax yp mp ix) - (mq ix - newMax yq mq ix))) + _ = _
    rw [newMax_eq hp hmp, newMax_eq hq hmq, hmp, hmq, hs, ht, dsum_rescale P Q _ (le_top P n) (top_mono P (by omega))
      (top_ne_bot P n) (le_top Q n) (top_mono Q (by omega)) (top_ne_bot Q n)]
    exact (sum_range_add _ _ _).symm
  · show b ix + Ideal.exp2 (rows8 yp k ix - newMax yp mp ix) *
      ((rows8 yp k ix - newMax yp mp ix) - (rows8 yq k ix - newMax yq mq ix)) = _
    rw [newMax_eq hp hmp, newMax_eq hq hmq, hp k hk, hq k hk]; rfl

theorem newHit_eq {r0 : ℕ} {rel : IVec S8x256 32} {y : FVec Ideal S512x256 .f32} {h : FVec Ideal S8x256 .f32}
    {ix : S8x256.Idx} {Y : ℕ → EReal} {n : ℕ} {hit : ℕ → Prop} [DecidablePred hit]
    (one : ∀ i j, hit i → hit j → i = j) (hy : ∀ k < 64, rows8 y k ix = Y (n + k))
    (hr : ∀ k < 64, rel ix = BitVec.ofNat 32 (r0 + 8 * k) ↔ hit (n + k)) (hh : h ix = pick hit Y (range n)) :
    newHit r0 rel y h ix = pick hit Y (range (n + 64)) := by
  unfold newHit
  rw [scan_apply ix _ (fun k b => if hit (n + k) then Y (n + k) else b) _ _ fun k hk b => ?_, hh, scan_pick hit Y one]
  show Scalar.select (IntOp.cmpi .eq (rel ix) (BitVec.ofNat 32 (r0 + 8 * k))) (rows8 y k ix) (b ix) = _
  rw [hy k hk]
  by_cases hk' : hit (n + k)
  · rw [if_pos hk', (hr k hk).2 hk']; simp [Scalar.select, IntOp.cmpi]
  · rw [if_neg hk']
    have := mt (hr k hk).1 hk'
    simp [Scalar.select, IntOp.cmpi, beq_eq_false_iff_ne.2 this]

/-- What the statistics hold at one place after `n` entries. -/
structure Holds (P Q : ℕ → EReal) (hit : ℕ → Prop) [DecidablePred hit] (n : ℕ) (ix : S8x256.Idx) (st : St Ideal) : Prop where
  mp : st.mp ix = top P n
  mq : st.mq ix = top Q n
  sp : st.sp ix = wsum P (range n) (top P n)
  sq : st.sq ix = wsum Q (range n) (top Q n)
  t : st.t ix = dsum P Q (range n) (top P n) (top Q n)
  tp : st.tp ix = pick hit P (range n)
  tq : st.tq ix = pick hit Q (range n)

theorem Holds.tile {P Q : ℕ → EReal} {hit : ℕ → Prop} [DecidablePred hit] {n : ℕ} {ix : S8x256.Idx} {st : St Ideal}
    (h : Holds P Q hit n ix st) {r0 : ℕ} {rel : IVec S8x256 32} {yp yq : FVec Ideal S512x256 .f32}
    (one : ∀ i j, hit i → hit j → i = j)
    (hp : ∀ k < 64, rows8 yp k ix = P (n + k)) (hq : ∀ k < 64, rows8 yq k ix = Q (n + k))
    (hr : ∀ k < 64, rel ix = BitVec.ofNat 32 (r0 + 8 * k) ↔ hit (n + k)) :
    Holds P Q hit (n + 64) ix (tile r0 rel yp yq st) :=
  ⟨newMax_eq hp h.mp, newMax_eq hq h.mq, newSum_eq hp h.mp h.sp, newSum_eq hq h.mq h.sq,
    newT_eq hp hq h.mp h.mq h.sp h.t, newHit_eq one hp hr h.tp, newHit_eq one hq hr h.tq⟩

end Cert.KernelIdeal.Tile

end
-- ==== Proof.Quant.lean ====
module

public import proofs.«01_k».proof.Proof.TileVal
public import proofs.«01_k».proof.Proof.Gen.ReferenceIdeal.Value
public import Idealize.ShloMosaic.Lib.Pointwise

@[expose] public section

set_option maxRecDepth 16384

noncomputable section

/-! The quantiser: the kernel's search for the biased exponent finds the number of powers of two that the reference
    counts, and both scales are the same power of two. -/

namespace Cert.KernelIdeal.Tile

open Cert.KernelIdeal.Gen
open Idealize.ShloMosaic

theorem fields {c : ℕ} (h2 : c ≤ 255) : ((BitVec.ofNat 32 (c * 8388608)).extractLsb' 23 8).toNat = c ∧
    ((BitVec.ofNat 32 (c * 8388608)).extractLsb' 0 23).toNat = 0 ∧
    ((BitVec.ofNat 32 (c * 8388608)).extractLsb' 31 1 == 1#1) = false := by
  have a : (c * 8388608) % 4294967296 = c * 8388608 := Nat.mod_eq_of_lt (by omega)
  refine ⟨?_, ?_, ?_⟩
  · rw [BitVec.extractLsb'_toNat, BitVec.toNat_ofNat, Nat.shiftRight_eq_div_pow]
    rw [show 2 ^ 32 = 4294967296 from rfl, a, show 2 ^ 23 = 8388608 from rfl]
    rw [Nat.mul_div_cancel _ (by norm_num)]; exact Nat.mod_eq_of_lt (by omega)
  · rw [BitVec.extractLsb'_toNat, BitVec.toNat_ofNat, Nat.shiftRight_zero]
    rw [show 2 ^ 32 = 4294967296 from rfl, a, show 2 ^ 23 = 8388608 from rfl]
    exact Nat.mul_mod_left _ _
  · rw [beq_eq_false_iff_ne]
    intro h
    have := congrArg BitVec.toNat h
    rw [BitVec.extractLsb'_toNat, BitVec.toNat_ofNat, Nat.shiftRight_eq_div_pow,
      show 2 ^ 32 = 4294967296 from rfl, a, show 2 ^ 31 = 2147483648 from rfl,
      Nat.div_eq_of_lt (by omega)] at this
    exact absurd this (by decide)

/-- The word of biased exponent `c` and no fraction is a power of two. -/
theorem pow_bits {c : ℕ} (h1 : 1 ≤ c) (h2 : c ≤ 254) :
    Ideal.ofBits .f32 (BitVec.ofNat 32 (c * 8388608)) = (((2 : ℝ) ^ ((c : ℤ) - 127) : ℝ) : EReal) := by
  obtain ⟨hex, hfr, hng⟩ := fields (c := c) (by omega)
  simp only [Ideal.ofBits, Ideal.ieee]
  simp only [hex, hfr]
  rw [if_neg (by norm_num; omega), if_neg (by omega)]
  congr 1
  have hng' : ((BitVec.ofNat 32 (c * 8388608)).extractLsb' (8 + 23) 1 == 1#1) = false := hng
  rw [hng']
  rw [if_neg (by decide), one_mul, show ((c : ℤ) - (2 ^ (8 - 1) - 1) - (23 : ℕ)) = ((c : ℤ) - 127) - 23 by norm_num, zpow_sub₀ (by norm_num)]
  norm_num
  field_simp

theorem top_bits : Ideal.ofBits .f32 (BitVec.ofNat 32 (255 * 8388608)) = ⊤ := by
  obtain ⟨hex, hfr, hng⟩ := fields (c := 255) (by omega)
  simp only [Ideal.ofBits, Ideal.ieee]
  simp only [hex, hfr]
  rw [if_pos (by norm_num), if_pos trivial]
  have hng' : ((BitVec.ofNat 32 (255 * 8388608)).extractLsb' (8 + 23) 1 == 1#1) = false := hng
  rw [hng', if_neg (by decide)]

theorem bits_126 : Ideal.ofBits .f32 0x42FC0000#32 = ((126 : ℝ) : EReal) := by
  simp only [Ideal.ofBits, Ideal.ieee]
  rw [if_neg (by decide), if_neg (by decide)]
  congr 1
  rw [show (BitVec.extractLsb' (8 + 23) 1 0x42FC0000#32 == 1#1) = false by decide, show (BitVec.extractLsb' 23 8 0x42FC0000#32).toNat = 133 by decide,
   show (BitVec.extractLsb' 0 23 0x42FC0000#32).toNat = 8126464 by decide]
  norm_num

theorem shli_23 (c : ℕ) : IntOp.shli .vector (BitVec.ofNat 32 c) 23#32 = BitVec.ofNat 32 (c * 8388608) := by
  apply BitVec.eq_of_toNat_eq
  simp [IntOp.shli, BitVec.toNat_shiftLeft, Nat.shiftLeft_eq]

/-- The binary search ends at `n` if the threshold of `c` is at most `q` exactly for the `c ≤ n`. -/
theorem search_eq (q : FVec Ideal S128x1 .f32) (l : Fin 128) {n : ℕ} (hn : n ≤ 255)
    (h : ∀ c : ℕ, 1 ≤ c → c ≤ 255 → (q (ix2 l 0) < Ideal.ofBits .f32 (BitVec.ofNat 32 (c * 8388608)) ↔ n < c)) :
    search q (ix2 l 0) = BitVec.ofNat 32 n := by
  have key : ∀ k ≤ 8, ∃ s : ℕ, scan (fun k b => select (cmpf .olt q (bitcastToFloat .f32
      (shli (addi b (broadcast S128x1 (BitVec.ofNat 32 (2 ^ (7 - k))))) (broadcast S128x1 23#32)))) b
      (addi b (broadcast S128x1 (BitVec.ofNat 32 (2 ^ (7 - k)))))) (broadcast S128x1 0#32) k (ix2 l 0)
        = BitVec.ofNat 32 s ∧ s ≤ n ∧ n < s + 2 ^ (8 - k) ∧ s + 2 ^ (8 - k) ≤ 256 := by
    intro k
    induction k with
    | zero => exact fun _ => ⟨0, rfl, by omega, by omega, by omega⟩
    | succ k ih =>
      intro hk
      obtain ⟨s, hs, h1, h2, h3⟩ := ih (by omega)
      rw [scan_succ]
      generalize scan (fun k b => select (cmpf .olt q (bitcastToFloat .f32
        (shli (addi b (broadcast S128x1 (BitVec.ofNat 32 (2 ^ (7 - k))))) (broadcast S128x1 23#32)))) b
        (addi b (broadcast S128x1 (BitVec.ofNat 32 (2 ^ (7 - k)))))) (broadcast S128x1 0#32) k = b at hs
      have e : 2 ^ (8 - k) = 2 * 2 ^ (7 - k) := by rw [show 8 - k = (7 - k) + 1 by omega, pow_succ]; ring
      have e' : 8 - (k + 1) = 7 - k := by omega
      have pos : 0 < 2 ^ (7 - k) := by positivity
      rw [e]  at h2 h3
      rw [e']
      have hsum : IntOp.addi (BitVec.ofNat 32 s) (BitVec.ofNat 32 (2 ^ (7 - k))) = BitVec.ofNat 32 (s + 2 ^ (7 - k)) := by
        simp [IntOp.addi, BitVec.ofNat_add]
      have hc := h (s + 2 ^ (7 - k)) (by omega) (by omega)
      have hv : select (cmpf .olt q (bitcastToFloat .f32
          (shli (addi b (broadcast S128x1 (BitVec.ofNat 32 (2 ^ (7 - k))))) (broadcast S128x1 23#32)))) b
          (addi b (broadcast S128x1 (BitVec.ofNat 32 (2 ^ (7 - k))))) (ix2 l 0)
          = if q (ix2 l 0) < Ideal.ofBits .f32 (BitVec.ofNat 32 ((s + 2 ^ (7 - k)) * 8388608)) then BitVec.ofNat 32 s
            else BitVec.ofNat 32 (s + 2 ^ (7 - k)) := by
        pointwise
        rw [hs, hsum, shli_23]
      rw [hv]
      by_cases hlt : n < s + 2 ^ (7 - k)
      · rw [if_pos (hc.2 hlt)]; exact ⟨s, rfl, h1, hlt, by omega⟩
      · rw [if_neg (mt hc.1 hlt)]; exact ⟨s + 2 ^ (7 - k), rfl, by omega, by omega, by omega⟩
  obtain ⟨s, hs, h1, h2, -⟩ := key 8 le_rfl
  have : s = n := by simp at h2; omega
  rw [← this]; exact hs

/-- How many of the powers `2^-126 … 2^127` are at most `q`. -/
def count (q : EReal) : ℕ := (Finset.univ.filter fun k : Fin 254 => (((2 : ℝ) ^ ((k : ℤ) - 126) : ℝ) : EReal) ≤ q).card

theorem count_le (q : EReal) : count q ≤ 254 := (Finset.card_le_univ _).trans_eq (by simp)

theorem lt_count {q : EReal} (k : Fin 254) : k.val < count q ↔ (((2 : ℝ) ^ ((k : ℤ) - 126) : ℝ) : EReal) ≤ q := by
  have mono : ∀ i j : Fin 254, i ≤ j → (((2 : ℝ) ^ ((i : ℤ) - 126) : ℝ) : EReal) ≤ (((2 : ℝ) ^ ((j : ℤ) - 126) : ℝ) : EReal) :=
    fun i j h => EReal.coe_le_coe_iff.2 (zpow_le_zpow_right₀ (by norm_num) (by have : i.val ≤ j.val := h; omega))
  constructor
  · intro h
    by_contra hk
    have : count q ≤ k.val := by
      refine (Finset.card_le_card (t := Finset.univ.filter fun j : Fin 254 => j < k) fun j hj => ?_).trans_eq ?_
      · have hj' := (Finset.mem_filter.1 hj).2
        exact Finset.mem_filter.2 ⟨Finset.mem_univ _, lt_of_not_ge fun hkj => hk ((mono k j hkj).trans hj')⟩
      · rw [show (Finset.univ.filter fun j : Fin 254 => j < k) = Finset.Iio k by ext; simp]; exact Fin.card_Iio k
    omega
  · intro h
    have : (Finset.univ.filter fun j : Fin 254 => j ≤ k).card ≤ count q :=
      Finset.card_le_card fun j hj => Finset.mem_filter.2 ⟨Finset.mem_univ _, (mono j k (Finset.mem_filter.1 hj).2).trans h⟩
    have e : (Finset.univ.filter fun j : Fin 254 => j ≤ k).card = k.val + 1 := by
      rw [show (Finset.univ.filter fun j : Fin 254 => j ≤ k) = Finset.Iic k by ext; simp]; exact Fin.card_Iic k
    omega

/-- The search finds the count. -/
theorem search_count (q : FVec Ideal S128x1 .f32) (l : Fin 128) (hq : q (ix2 l 0) ≠ ⊤) :
    search q (ix2 l 0) = BitVec.ofNat 32 (count (q (ix2 l 0))) := by
  have hle := count_le (q (ix2 l 0))
  refine search_eq q l (by omega) fun c h1 h2 => ?_
  by_cases hc : c = 255
  · subst hc
    rw [top_bits]
    exact ⟨fun _ => by omega, fun _ => lt_top_iff_ne_top.2 hq⟩
  · have := lt_count (q := q (ix2 l 0)) ⟨c - 1, by omega⟩
    rw [pow_bits h1 (by omega), show ((c : ℤ) - 127) = (((⟨c - 1, by omega⟩ : Fin 254) : ℕ) : ℤ) - 126 by simp; omega,
      ← not_le, ← this]
    simp only; omega

/-- The exponent of a scale. -/
def ex (n : ℕ) : ℤ := if n = 0 then 0 else n - 126

theorem scale_bits {n : ℕ} (hn : n ≤ 252) :
    Ideal.ofBits .f32 (IntOp.shli .vector (IntOp.addi 127#32 (Scalar.select (IntOp.cmpi .eq (BitVec.ofNat 32 n) 0#32) 0#32
      (IntOp.subi (BitVec.ofNat 32 n) 126#32))) 23#32) = (((2 : ℝ) ^ (ex n) : ℝ) : EReal) := by
  by_cases h0 : n = 0
  · subst h0
    rw [show IntOp.addi 127#32 (Scalar.select (IntOp.cmpi .eq (BitVec.ofNat 32 0) 0#32) 0#32
      (IntOp.subi (BitVec.ofNat 32 0) 126#32)) = BitVec.ofNat 32 127 by decide, shli_23, pow_bits (by omega) (by omega)]
    norm_num [ex]
  · have e : IntOp.addi 127#32 (Scalar.select (IntOp.cmpi .eq (BitVec.ofNat 32 n) 0#32) 0#32
        (IntOp.subi (BitVec.ofNat 32 n) 126#32)) = BitVec.ofNat 32 (n + 1) := by
      have : BitVec.ofNat 32 n ≠ 0#32 := fun h => h0 (by have := congrArg BitVec.toNat h; simp at this; omega)
      simp only [IntOp.addi, IntOp.subi, IntOp.cmpi, Scalar.select, beq_eq_false_iff_ne.2 this]
      simp only [BitVec.ofBool_false]
      apply BitVec.eq_of_toNat_eq; simp; omega
    rw [e, shli_23, pow_bits (by omega) (by omega), ex, if_neg h0]
    rw [show (((n + 1 : ℕ) : ℤ) - 127) = (n : ℤ) - 126 by push_cast; ring]

theorem inv_bits {n : ℕ} (hn : n ≤ 252) :
    Ideal.ofBits .f32 (IntOp.shli .vector (IntOp.subi 127#32 (Scalar.select (IntOp.cmpi .eq (BitVec.ofNat 32 n) 0#32) 0#32
      (IntOp.subi (BitVec.ofNat 32 n) 126#32))) 23#32) = (((2 : ℝ) ^ (-ex n) : ℝ) : EReal) := by
  by_cases h0 : n = 0
  · subst h0
    rw [show IntOp.subi 127#32 (Scalar.select (IntOp.cmpi .eq (BitVec.ofNat 32 0) 0#32) 0#32
      (IntOp.subi (BitVec.ofNat 32 0) 126#32)) = BitVec.ofNat 32 127 by decide, shli_23, pow_bits (by omega) (by omega)]
    norm_num [ex]
  · have e : IntOp.subi 127#32 (Scalar.select (IntOp.cmpi .eq (BitVec.ofNat 32 n) 0#32) 0#32
        (IntOp.subi (BitVec.ofNat 32 n) 126#32)) = BitVec.ofNat 32 (253 - n) := by
      have : BitVec.ofNat 32 n ≠ 0#32 := fun h => h0 (by have := congrArg BitVec.toNat h; simp at this; omega)
      simp only [IntOp.subi, IntOp.cmpi, Scalar.select, beq_eq_false_iff_ne.2 this]
      simp only [BitVec.ofBool_false]
      apply BitVec.eq_of_toNat_eq; simp; omega
    rw [e, shli_23, pow_bits (by omega) (by omega), ex, if_neg h0]
    rw [show (((253 - n : ℕ) : ℤ) - 127) = -((n : ℤ) - 126) by omega]

theorem exp2_int (z : ℤ) : Ideal.exp2 ((z : ℝ) : EReal) = (((2 : ℝ) ^ z : ℝ) : EReal) := by
  rw [Ideal.exp2_coe]; exact congrArg _ (Real.rpow_intCast 2 z)

/-- The reference counts the same powers of two. -/
theorem refcount (q : EReal) :
    (∑ x : Fin 254, if Ideal.exp2 (((BitVec.ofNat 32 x.val).toInt : ℝ) - Ideal.ofBits .f32 0x42FC0000#32 : EReal) ≤ q then (1 : EReal) else 0)
      = ((count q : ℝ) : EReal) := by
  have e : ∀ x : Fin 254, Ideal.exp2 ((((BitVec.ofNat 32 x.val).toInt : ℝ) : EReal) - Ideal.ofBits .f32 0x42FC0000#32)
      = (((2 : ℝ) ^ ((x : ℤ) - 126) : ℝ) : EReal) := fun x => by
    rw [bits_126, ← EReal.coe_sub, ← exp2_int]
    congr 2
    have hx : (BitVec.ofNat 32 x.val).toNat = x.val := by rw [BitVec.toNat_ofNat]; exact Nat.mod_eq_of_lt (by omega)
    rw [BitVec.toInt_eq_toNat_of_lt (by rw [hx]; omega), hx]
    push_cast; rfl
  simp only [e]
  rw [Finset.sum_boole]
  simp [count]

theorem ref_ex (n : ℕ) : (if ((n : ℝ) : EReal) = 0 then (0 : EReal) else (n : ℝ) - Ideal.ofBits .f32 0x42FC0000#32) = (((ex n : ℤ) : ℝ) : EReal) := by
  rw [bits_126, ex]
  by_cases h : n = 0
  · subst h; simp
  · rw [if_neg (by simpa using h), if_neg h, ← EReal.coe_sub]; push_cast; rfl

theorem bot_bits : Ideal.ofBits .f32 0xFF800000#32 = ⊥ := by
  simp only [Ideal.ofBits, Ideal.ieee]
  rw [if_pos (by decide), if_pos (by decide), if_pos (by decide)]

theorem fold_max {ι : Type} [Fintype ι] (f : ι → EReal) :
    Finset.fold max (Ideal.ofBits .f32 0xFF800000#32) f Finset.univ = Finset.univ.sup f := by
  rw [bot_bits]; rfl

/-- The largest magnitude of a row over 448. -/
def rowq (x : Vec Ideal S2x128x1536 .bf16) (b : Fin 2) (l : Fin 128) : EReal :=
  (Finset.univ.sup fun d : Fin 1536 => (FloatOps.absf (F := Ideal) (φ := .f32) (x (ix3 b l d)) : EReal)) * Ideal.ofBits .f32 0x3B124925#32

/-- Every magnitude is at most the largest finite `bf16`. -/
def InRange (x : Vec Ideal S2x128x1536 .bf16) : Prop :=
  ∀ b l d, (FloatOps.absf (F := Ideal) (φ := .f32) (x (ix3 b l d)) : EReal) ≤ Ideal.ofBits .f32 0x7F7F0000#32

theorem rowq_lt {x : Vec Ideal S2x128x1536 .bf16} (h : InRange x) (b : Fin 2) (l : Fin 128) :
    rowq x b l < (((2 : ℝ) ^ (126 : ℤ) : ℝ) : EReal) := by
  have e1 : Ideal.ofBits .f32 0x3B124925#32 = ((9586981 * (2 : ℝ) ^ (-32 : ℤ) : ℝ) : EReal) := by
    simp only [Ideal.ofBits, Ideal.ieee]
    rw [if_neg (by decide), if_neg (by decide),
      show (BitVec.extractLsb' (8 + 23) 1 0x3B124925#32 == 1#1) = false by decide,
      show (BitVec.extractLsb' 23 8 0x3B124925#32).toNat = 118 by decide,
      show (BitVec.extractLsb' 0 23 0x3B124925#32).toNat = 1198373 by decide]
    congr 1; norm_num
  have e2 : Ideal.ofBits .f32 0x7F7F0000#32 = ((16711680 * (2 : ℝ) ^ (104 : ℤ) : ℝ) : EReal) := by
    simp only [Ideal.ofBits, Ideal.ieee]
    rw [if_neg (by decide), if_neg (by decide),
      show (BitVec.extractLsb' (8 + 23) 1 0x7F7F0000#32 == 1#1) = false by decide,
      show (BitVec.extractLsb' 23 8 0x7F7F0000#32).toNat = 254 by decide,
      show (BitVec.extractLsb' 0 23 0x7F7F0000#32).toNat = 8323072 by decide]
    congr 1; norm_num
  have hs : (Finset.univ.sup fun d : Fin 1536 => (FloatOps.absf (F := Ideal) (φ := .f32) (x (ix3 b l d)) : EReal))
      ≤ ((16711680 * (2 : ℝ) ^ (104 : ℤ) : ℝ) : EReal) := Finset.sup_le fun d _ => e2 ▸ h b l d
  unfold rowq
  rw [e1]
  refine (mul_le_mul_of_nonneg_right hs (EReal.coe_nonneg.2 (by positivity))).trans_lt ?_
  rw [← EReal.coe_mul, EReal.coe_lt_coe_iff]
  norm_num

theorem count_rowq {x : Vec Ideal S2x128x1536 .bf16} (h : InRange x) (b : Fin 2) (l : Fin 128) : count (rowq x b l) ≤ 252 := by
  by_contra hc
  have := (lt_count (q := rowq x b l) 252).1 (by show 252 < _; omega)
  exact absurd (rowq_lt h b l) (not_lt.2 (by simpa using this))

theorem batch_apply (x : Vec Ideal S2x128x1536 .bf16) (b : Fin 2) (l : Fin 128) (d : Fin 1536) :
    batch x b.val (ix3 0 l d) = x (ix3 b l d) := by
  have e : (⟨b.val % 2, Nat.mod_lt _ (by decide)⟩ : Fin 2) = b := Fin.ext (Nat.mod_eq_of_lt b.isLt)
  pointwise [batch]
  rw [e]

theorem quot_batch (x : Vec Ideal S2x128x1536 .bf16) (b : Fin 2) (l : Fin 128) :
    quot (batch x b.val) (ix2 l 0) = rowq x b l := by
  pointwise [quot, widen]
  rw [fold_max]
  unfold rowq
  simp only [batch_apply]

theorem search_batch {x : Vec Ideal S2x128x1536 .bf16} (h : InRange x) (b : Fin 2) (l : Fin 128) :
    search (quot (batch x b.val)) (ix2 l 0) = BitVec.ofNat 32 (count (rowq x b l)) := by
  rw [search_count _ _ (by rw [quot_batch]; exact (rowq_lt h b l).ne_top), quot_batch]

/-- The scale of a row. -/
def rowScale (x : Vec Ideal S2x128x1536 .bf16) (b : Fin 2) (l : Fin 128) : EReal := (((2 : ℝ) ^ (ex (count (rowq x b l))) : ℝ) : EReal)

theorem scaleRow_eq {x : Vec Ideal S2x128x1536 .bf16} (h : InRange x) (b : Fin 2) (l : Fin 128) :
    scaleRow (batch x b.val) (ix2 0 l) = rowScale x b l := by
  pointwise [scaleRow, expo]
  rw [search_batch h, scale_bits (count_rowq h b l)]; rfl

/-- An element over its row's scale, within the range of the codes. -/
def code (x : Vec Ideal S2x128x1536 .bf16) (b : Fin 2) (l : Fin 128) (d : Fin 1536) : EReal :=
  min (Ideal.ofBits .f32 0x43E00000#32) (max (Ideal.ofBits .f32 0xC3E00000#32)
    (x (ix3 b l d) * (((2 : ℝ) ^ (-ex (count (rowq x b l))) : ℝ) : EReal)))

theorem codesOf_eq {x : Vec Ideal S2x128x1536 .bf16} (h : InRange x) (b : Fin 2) (l : Fin 128) (d : Fin 1536) :
    codesOf (batch x b.val) (ix2 l d) = code x b l d := by
  pointwise [codesOf, widen, expo]
  rw [search_batch h, inv_bits (count_rowq h b l), batch_apply]; rfl

theorem codesT_eq {x : Vec Ideal S2x128x1536 .bf16} (h : InRange x) (b : Fin 2) (l : Fin 128) (d : Fin 1536) :
    codesT (batch x b.val) (ix2 d l) = code x b l d := by
  rw [← codesOf_eq h]
  pointwise [codesT]

theorem refExp (x : Vec Ideal S2x128x1536 .bf16) (b : Fin 2) (l : Fin 128) :
    Cert.ReferenceIdeal.Gen.k0_pay3 x (ix2 b l) = (((ex (count (rowq x b l)) : ℤ) : ℝ) : EReal) := by
  pointwise [Cert.ReferenceIdeal.Gen.k0_pay3, Cert.ReferenceIdeal.Gen.k0_pay2]
  rw [fold_max]
  have := refcount (rowq x b l)
  rw [← ref_ex, ← this]; rfl

theorem refScale (x : Vec Ideal S2x128x1536 .bf16) (b : Fin 2) (l : Fin 128) :
    Cert.ReferenceIdeal.Gen.k0_pay5 x (ix2 b l) = rowScale x b l := by
  show Ideal.exp2 (Cert.ReferenceIdeal.Gen.k0_pay3 x (ix2 b l)) = _
  rw [refExp, exp2_int]; rfl

theorem zero_bits : Ideal.ofBits .f32 0x00000000#32 = 0 := by
  simp only [Ideal.ofBits, Ideal.ieee]
  rw [if_neg (by decide), if_pos (by decide), show (BitVec.extractLsb' 0 23 0x00000000#32).toNat = 0 by decide]
  simp

theorem refCode (x : Vec Ideal S2x128x1536 .bf16) (b : Fin 2) (l : Fin 128) (d : Fin 1536) :
    Cert.ReferenceIdeal.Gen.k0_pay4 x (ix3 b l d) = code x b l d := by
  pointwise [Cert.ReferenceIdeal.Gen.k0_pay4, Cert.ReferenceIdeal.Gen.k0_pay2]
  rw [refExp]
  show min _ (max _ (_ * Ideal.exp2 (0 - _))) = _
  rw [zero_sub, ← EReal.coe_neg, ← Int.cast_neg, exp2_int]; rfl

end Cert.KernelIdeal.Tile

end
-- ==== Proof.Logits.lean ====
module

public import proofs.«01_k».proof.Proof.Quant
public import Idealize.ShloMosaic.Lib.BitcastFour

@[expose] public section

set_option maxRecDepth 16384
set_option maxHeartbeats 1000000

noncomputable section

/-! The logits of a tile, entry by entry. -/

namespace Cert.KernelIdeal.Tile

open Cert.KernelIdeal.Gen Cert.Online
open Idealize.ShloMosaic

theorem word_bit (w : Vec Ideal S512x768 .i8) (a : Fin 128) (c : Fin 768) (q : ℕ) (hq : q < 32) :
    (bitcast S128x768 32 w bitcasts_S512x768_w8_S128x768_w32 (ix2 a c)).getLsbD q
      = (w (ix2 ⟨4 * a.val + q / 8, by omega⟩ c)).getLsbD (q % 8) :=
  bitcast_8_32_getLsbD_ix2 (R := 512) (r := 128) (n := 768) w bitcasts_S512x768_w8_S128x768_w32 a c q hq ⟨4 * a.val + q / 8, by omega⟩ rfl

theorem byte_bit (w : IVec S128x768 32) (r : Fin 512) (c : Fin 768) (q : ℕ) (hq : q < 8) :
    (bitcast S512x768 8 w bitcasts_S128x768_w32_S512x768_w8 (ix2 r c)).getLsbD q
      = (w (ix2 ⟨r.val / 4, by omega⟩ c)).getLsbD (8 * (r.val % 4) + q) := by
  rw [bitcast_getLsbD w bitcasts_S128x768_w32_S512x768_w8 _ q hq (by decide)]
  have hr : S512x768.row (ix2 r c) = r.val := rfl
  congr 1
  · congr 1
    funext k
    match k with
    | ⟨0, _⟩ =>
      refine Fin.ext ((bitcasts_S128x768_w32_S512x768_w8.srcIdx_row _ _ _ ⟨0, Nat.zero_lt_two⟩ rfl).trans ?_)
      rw [hr]; show (r.val * 8 + q) / 32 = r.val / 4; omega
    | ⟨1, _⟩ => exact Fin.ext (bitcasts_S128x768_w32_S512x768_w8.srcIdx_other _ _ _ ⟨1, Nat.one_lt_two⟩ (by show ¬ 1 + 2 = 2; omega))
  · rw [hr]; omega

theorem mask_bit : ∀ p < 32, (4042322160#32 : BitVec 32).getLsbD p = decide (4 ≤ p % 8) := by decide

theorem loNib_apply (w : Vec Ideal S512x768 .i8) (r : Fin 512) (c : Fin 768) :
    loNib w (ix2 r c) = (w (ix2 r c) : BitVec 8) <<< 4 := by
  apply BitVec.eq_of_getLsbD_eq
  intro q hq
  unfold loNib
  rw [byte_bit _ _ _ _ hq]
  show (IntOp.andi (IntOp.shli .vector (bitcast S128x768 32 w bitcasts_S512x768_w8_S128x768_w32 (ix2 ⟨r.val / 4, by omega⟩ c)) 4#32) 4042322160#32).getLsbD _ = _
  have hp : 8 * (r.val % 4) + q < 32 := by omega
  have hs : ∀ W : BitVec 32, IntOp.shli .vector W 4#32 = W <<< 4 := fun W => rfl
  have hm : (8 * (r.val % 4) + q) % 8 = q := by omega
  simp only [IntOp.andi, hs, BitVec.getLsbD_and, mask_bit _ hp, hm, BitVec.getLsbD_shiftLeft]
  by_cases h4 : 4 ≤ q
  · have e : (⟨4 * (r.val / 4) + (8 * (r.val % 4) + q - 4) / 8, by omega⟩ : Fin 512) = r := Fin.ext (by simp only; omega)
    have e' : (8 * (r.val % 4) + q - 4) % 8 = q - 4 := by omega
    rw [word_bit _ _ _ _ (by omega)]
    simp only [e, e', hp, hq, h4, show ¬ 8 * (r.val % 4) + q < 4 by omega, show ¬ q < 4 by omega, decide_true, decide_false,
      Bool.not_false, Bool.true_and, Bool.and_true]
  · simp only [h4, show q < 4 by omega, decide_true, decide_false, Bool.not_true, Bool.and_false, Bool.false_and]

theorem hiNib_apply (w : Vec Ideal S512x768 .i8) (r : Fin 512) (c : Fin 768) :
    hiNib w (ix2 r c) = (w (ix2 r c) : BitVec 8) &&& 0xF0#8 := by
  apply BitVec.eq_of_getLsbD_eq
  intro q hq
  unfold hiNib
  rw [byte_bit _ _ _ _ hq]
  show (IntOp.andi (bitcast S128x768 32 w bitcasts_S512x768_w8_S128x768_w32 (ix2 ⟨r.val / 4, by omega⟩ c)) 4042322160#32).getLsbD _ = _
  have hp : 8 * (r.val % 4) + q < 32 := by omega
  have e : (⟨4 * (r.val / 4) + (8 * (r.val % 4) + q) / 8, by omega⟩ : Fin 512) = r := Fin.ext (by simp only; omega)
  have e' : (8 * (r.val % 4) + q) % 8 = q := by omega
  have m : ∀ p < 8, (0xF0#8 : BitVec 8).getLsbD p = decide (4 ≤ p) := by decide
  simp only [IntOp.andi, BitVec.getLsbD_and, mask_bit _ hp]
  rw [word_bit _ _ _ _ hp, m q hq]
  simp only [e, e']

/-- The signed low and high halves of a byte. -/
def lo (w : BitVec 8) : BitVec 32 :=
  Scalar.select (IntOp.cmpi .sge (IntOp.andi (w.setWidth 32) 15#32) 8#32) (IntOp.subi (IntOp.andi (w.setWidth 32) 15#32) 16#32)
    (IntOp.andi (w.setWidth 32) 15#32)

def hi (w : BitVec 8) : BitVec 32 :=
  Scalar.select (IntOp.cmpi .sge (IntOp.andi (IntOp.shrsi .vector (w.setWidth 32) 4#32) 15#32) 8#32)
    (IntOp.subi (IntOp.andi (IntOp.shrsi .vector (w.setWidth 32) 4#32) 15#32) 16#32)
    (IntOp.andi (IntOp.shrsi .vector (w.setWidth 32) 4#32) 15#32)

theorem lo_sixteen : ∀ w : BitVec 8, (w <<< 4).toInt = 16 * (lo w).toInt := by decide +kernel
theorem hi_sixteen : ∀ w : BitVec 8, (w &&& 0xF0#8).toInt = 16 * (hi w).toInt := by decide +kernel

theorem qpat_apply (h : FVec Ideal S12x128 .bf16) (j : ℕ) (q c : Fin 128) :
    qpat h j (ix2 q c) = h (ix2 ⟨(2 * j + c.val / 64) % 12, Nat.mod_lt _ (by decide)⟩ q) := by
  pointwise [qpat, qrow]
  split_ifs with hc
  · congr 3; omega
  · congr 3; omega

theorem qsq_apply (h : Vec Ideal S12x128 .f32) (q : Fin 128) (c : Fin 768) :
    qsq h (ix2 q c) = h (ix2 ⟨c.val / 64, by omega⟩ q) := by
  pointwise [qsq]
  simp only [qpat_apply]
  split_ifs <;> (pointwise; congr 3; omega)

theorem hBlk_apply (x6 : Vec Ideal S12x1536 .f32) (k : ℕ) (hk : k < 12) (a : Fin 12) (q : Fin 128) :
    hBlk x6 k (ix2 a q) = x6 (ix2 a ⟨128 * k + q.val, by omega⟩) := by
  pointwise [hBlk]
  congr 3; omega

theorem qscale_apply (x6 : Vec Ideal S12x1536 .f32) (t : ℕ) (ht : t < 3) (q : Fin 512) (c : Fin 768) :
    qscale (hBlk x6 (4 * t)) (hBlk x6 (4 * t + 1)) (hBlk x6 (4 * t + 2)) (hBlk x6 (4 * t + 3)) (ix2 q c)
      = x6 (ix2 ⟨c.val / 64, by omega⟩ ⟨512 * t + q.val, by omega⟩) := by
  pointwise [qscale]
  simp only [qsq_apply]
  split_ifs <;> (rw [hBlk_apply _ _ (by omega)]; refine congrArg x6 (congrArg (ix2 _) (Fin.ext ?_)); dsimp only; omega)

/-- The target's row is met in slice `k` exactly when it is that row of the vocabulary. -/
theorem relOf_apply (i : grid0.Coords) (t0 t1 : Vec Ideal S1x128 .i32) (r : Fin 8) (tok : Fin 256) (a : ℕ) :
    relOf i t0 t1 (ix2 r tok) = BitVec.ofNat 32 a ↔
      (if h : tok.val < 128 then t0 (ix2 0 ⟨tok.val, h⟩) else t1 (ix2 0 ⟨tok.val - 128, by omega⟩) : BitVec 32)
        = BitVec.ofNat 32 (1536 * (i 0).val + a + r.val) := by
  pointwise [relOf]
  generalize (if h : tok.val < 128 then t0 (ix2 0 ⟨tok.val, h⟩) else t1 (ix2 0 ⟨tok.val - 128, by omega⟩) : BitVec 32) = X
  show X - BitVec.ofNat 32 (i 0).val * 1536#32 - BitVec.ofNat 32 r.val = BitVec.ofNat 32 a ↔ _
  have e : BitVec.ofNat 32 (1536 * (i 0).val + a + r.val)
      = BitVec.ofNat 32 a + BitVec.ofNat 32 r.val + BitVec.ofNat 32 (i 0).val * 1536#32 := by
    rw [BitVec.ofNat_add, BitVec.ofNat_add, BitVec.ofNat_mul, BitVec.mul_comm (BitVec.ofNat 32 (i 0).val)]
    ac_rfl
  rw [e]
  generalize BitVec.ofNat 32 (i 0).val * 1536#32 = A
  generalize BitVec.ofNat 32 r.val = R
  generalize BitVec.ofNat 32 a = a
  constructor <;> intro h <;> bv_omega

theorem yqOf_apply (w : Vec Ideal S512x768 .i8) (x6 : Vec Ideal S12x1536 .f32) (t : ℕ) (ht : t < 3) (ev od : Vec Ideal S768x256 .bf16)
    (q : Fin 512) (tok : Fin 256) :
    yqOf w (hBlk x6 (4 * t)) (hBlk x6 (4 * t + 1)) (hBlk x6 (4 * t + 2)) (hBlk x6 (4 * t + 3)) ev od (ix2 q tok)
      = (l2e : EReal) * ((∑ h : Fin 768, ev (ix2 h tok) * ((((lo (w (ix2 q h))).toInt : ℝ) : EReal) * x6 (ix2 ⟨h.val / 64, by omega⟩ ⟨512 * t + q.val, by omega⟩)))
        + ∑ h : Fin 768, od (ix2 h tok) * ((((hi (w (ix2 q h))).toInt : ℝ) : EReal) * x6 (ix2 ⟨h.val / 64, by omega⟩ ⟨512 * t + q.val, by omega⟩))) := by
  pointwise [yqOf]
  simp only [qscale_apply x6 t ht, loNib_apply, hiNib_apply]
  rw [show (Named.named κ "log2e_over_16" 1035512379#32 : Ideal .f32) = (((Real.log 2)⁻¹ * (1 / 16) : ℝ) : EReal) from
    IdealRules.named_const.ideal_named_scalar _ _ _ _ rfl, mul_comm _ (((Real.log 2)⁻¹ * (1 / 16) : ℝ) : EReal), EReal.coe_mul, mul_assoc]
  refine congrArg ((l2e : EReal) * ·) ?_
  rw [EReal.left_distrib_of_nonneg_of_ne_top (by exact_mod_cast (by norm_num : (0 : ℝ) ≤ 1 / 16)) (EReal.coe_ne_top _),
    coe_mul_sum (by norm_num), coe_mul_sum (by norm_num)]
  have key : ∀ (n n' : ℤ) (H e : EReal), n = 16 * n' →
      ((1 / 16 : ℝ) : EReal) * (((n : ℝ) : EReal) * H * e) = e * (((n' : ℝ) : EReal) * H) := fun n n' H e h => by
    rw [h, ← mul_assoc, ← mul_assoc, ← EReal.coe_mul, show ((1 / 16 : ℝ) * ((16 * n' : ℤ) : ℝ)) = (n' : ℝ) by push_cast; ring, mul_comm]
  congr 1
  · exact Finset.sum_congr rfl fun h _ => key _ _ _ _ (lo_sixteen _)
  · exact Finset.sum_congr rfl fun h _ => key _ _ _ _ (hi_sixteen _)

theorem gRow_apply (i : grid0.Coords) (x3 : Vec Ideal S1188x128 .f32) (k : ℕ) (hk : k < 12) (c : Fin 128) :
    gRow i x3 k (ix2 0 c) = x3 (ix2 ⟨12 * (i 0).val + k, by have : (i 0).val < 99 := (i 0).isLt; omega⟩ c) := by
  have hi : (i 0).val < 99 := (i 0).isLt
  have e : k0_off1 i (BitVec.ofNat 32 (k % 12)) 0 = 12 * (i 0).val + k := by
    show (BitVec.ofNat 32 (i 0).val * 12#32 + BitVec.ofNat 32 (k % 12)).toNat = _
    rw [Nat.mod_eq_of_lt hk, BitVec.toNat_add, BitVec.toNat_mul, BitVec.toNat_ofNat, BitVec.toNat_ofNat, BitVec.toNat_ofNat]
    omega
  pointwise [gRow]
  refine congrArg x3 ?_
  congr 1
  · exact Fin.ext e
  · exact Fin.ext (Nat.zero_add _)

theorem ypOf_apply (i : grid0.Coords) (w : Vec Ideal S512x1536 .fp8e4m3) (x3 : Vec Ideal S1188x128 .f32) (t : ℕ) (ht : t < 3)
    (xt : Vec Ideal S1536x256 .fp8e4m3) (cp : FVec Ideal S1x256 .f32) (q : Fin 512) (tok : Fin 256) :
    ypOf w xt (gRow i x3 (4 * t)) (gRow i x3 (4 * t + 1)) (gRow i x3 (4 * t + 2)) (gRow i x3 (4 * t + 3)) cp (ix2 q tok)
      = (∑ d, w (ix2 q d) * xt (ix2 d tok)) * x3 (ix2 ⟨12 * (i 0).val + 4 * t + q.val / 128, by have : (i 0).val < 99 := (i 0).isLt; omega⟩ ⟨q.val % 128, by omega⟩) * cp (ix2 0 tok) := by
  pointwise [ypOf, wcol]
  simp only [gRow_apply i x3 _ (show 4 * t < 12 by omega), gRow_apply i x3 _ (show 4 * t + 1 < 12 by omega), gRow_apply i x3 _ (show 4 * t + 2 < 12 by omega), gRow_apply i x3 _ (show 4 * t + 3 < 12 by omega)]
  congr 2
  split_ifs <;> (refine congrArg x3 ?_; congr 1 <;> (refine Fin.ext ?_; dsimp only; omega))

end Cert.KernelIdeal.Tile

end
-- ==== Proof.RunBase.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 99 = 0 :=
  (fun t => by
    have ht : t.val < 99 := Nat.lt_of_lt_of_eq t.isLt N_0
    have e0 : (grid0.coords t 0).val = t.val / 1 % 99 := Pipeline.Grid.coords_val t 0 (by decide) rfl
    simp only [cond0_0, k0_cond1, e0]
    word_cmp
   : ∀ t : Fin grid0.N, cond0_0 (grid0.coords t) ↔ t.val % 99 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 99 = 98 :=
  (fun t => by
    have ht : t.val < 99 := Nat.lt_of_lt_of_eq t.isLt N_0
    have e0 : (grid0.coords t 0).val = t.val / 1 % 99 := Pipeline.Grid.coords_val t 0 (by decide) rfl
    simp only [cond0_1, k0_cond2, e0]
    word_cmp
   : ∀ t : Fin grid0.N, cond0_1 (grid0.coords t) ↔ t.val % 99 = 98)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2x128x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x128x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1188x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x1536 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x768 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x128x1536 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S1536x256 .fp8e4m3 := Memref.whole cc0_scratch0
abbrev scM0_1 : Memref sig .tc .vmem S768x256 .bf16 := Memref.whole cc0_scratch1
abbrev scM0_2 : Memref sig .tc .vmem S768x256 .bf16 := Memref.whole cc0_scratch2
abbrev scM0_3 : Memref sig .tc .vmem S2x128 .f32 := Memref.whole cc0_scratch3
abbrev scM0_4 : Memref sig .tc .vmem S7x8x256 .f32 := Memref.whole cc0_scratch4
/-- The scratch `arg13` the kernel carries between points, as a view: what it holds is stated through it. -/
abbrev VS0_0 : View sig .tc .vmem S1536x256 .fp8e4m3 := scM0_0.view
/-- The scratch `arg14` the kernel carries between points, as a view: what it holds is stated through it. -/
abbrev VS0_1 : View sig .tc .vmem S768x256 .bf16 := scM0_1.view
/-- The scratch `arg15` the kernel carries between points, as a view: what it holds is stated through it. -/
abbrev VS0_2 : View sig .tc .vmem S768x256 .bf16 := scM0_2.view
/-- The scratch `arg16` the kernel carries between points, as a view: what it holds is stated through it. -/
abbrev VS0_3 : View sig .tc .vmem S2x128 .f32 := scM0_3.view
/-- The scratch `arg17` the kernel carries between points, as a view: what it holds is stated through it. -/
abbrev VS0_4 : View sig .tc .vmem S7x8x256 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Run

end
-- ==== Proof.RunA.lean ====
module

public import proofs.«01_k».proof.Proof.RunBase

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1444000 in
/-- Run of the kernel body at the first grid point: from whole buffers at the given contents the body runs to its end, the
    buffers it stores into holding the listed pieces (last store first). The run itself finds the pieces. -/
noncomputable def runA (c : Dev nD) (i : grid0.Coords) (arg1 : Memref sig .tc .vmem S2x128x1536 .bf16) (harg1 : arg1.IsWhole) (arg2 : Memref sig .tc .vmem S2x128x1536 .bf16) (harg2 : arg2.IsWhole) (arg3 : Memref sig .tc .vmem S2x128 .i32) (harg3 : arg3.IsWhole) (arg4 : Memref sig .tc .vmem S1188x128 .f32) (harg4 : arg4.IsWhole) (arg5 : Memref sig .tc .vmem S1536x1536 .fp8e4m3) (harg5 : arg5.IsWhole) (arg6 : Memref sig .tc .vmem S1536x768 .i8) (harg6 : arg6.IsWhole) (arg7 : Memref sig .tc .vmem S12x1536 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128x1536 .fp8e4m3) (harg11 : arg11.IsWhole) (arg12 : Memref sig .tc .vmem S2x128 .f32) (harg12 : arg12.IsWhole) (arg13 : Memref sig .tc .vmem S1536x256 .fp8e4m3) (harg13 : arg13.IsWhole) (arg14 : Memref sig .tc .vmem S768x256 .bf16) (harg14 : arg14.IsWhole) (arg15 : Memref sig .tc .vmem S768x256 .bf16) (harg15 : arg15.IsWhole) (arg16 : Memref sig .tc .vmem S2x128 .f32) (harg16 : arg16.IsWhole) (arg17 : Memref sig .tc .vmem S7x8x256 .f32) (harg17 : arg17.IsWhole) (hc0 : cond0_0 i) (hc1 : ¬cond0_1 i)
    (x0 : Vec F S2x128x1536 .bf16) (x1 : Vec F S2x128x1536 .bf16) (x2 : Vec F S2x128 .i32) (x3 : Vec F S1188x128 .f32) (x4 : Vec F S1536x1536 .fp8e4m3) (x5 : Vec F S1536x768 .i8) (x6 : Vec F S12x1536 .f32) :
    Σ' (L10 : List (View.Piece (Elt F) S2x128x1536 .fp8e4m3)), Σ' (L11 : List (View.Piece (Elt F) S2x128 .f32)), Σ' (LS0 : List (View.Piece (Elt F) S1536x256 .fp8e4m3)), Σ' (LS1 : List (View.Piece (Elt F) S768x256 .bf16)), Σ' (LS2 : List (View.Piece (Elt F) S768x256 .bf16)), Σ' (LS3 : List (View.Piece (Elt F) S2x128 .f32)), { LS4 : List (View.Piece (Elt F) S7x8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0_heads_logprob_kl i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0_heads_logprob_kl_eq_skeleton]; unfold cc0_heads_logprob_kl_skel
    simp only [k0_part97_eq_skeleton, k0_part9_eq_skeleton, k0_part1_eq_skeleton, k0_part2_eq_skeleton, k0_part3_eq_skeleton, k0_part4_eq_skeleton, k0_part5_eq_skeleton, k0_part6_eq_skeleton, k0_part7_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    iexists _; iexact HS4

end Cert.KernelIdeal.Run

end
-- ==== Proof.RunB.lean ====
module

public import proofs.«01_k».proof.Proof.RunBase

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- Run of the kernel body at a middle grid point: from whole buffers at the given contents the body runs to its end, the
    buffers it stores into holding the listed pieces (last store first). The run itself finds the pieces. -/
noncomputable def runB (c : Dev nD) (i : grid0.Coords) (arg1 : Memref sig .tc .vmem S2x128x1536 .bf16) (harg1 : arg1.IsWhole) (arg2 : Memref sig .tc .vmem S2x128x1536 .bf16) (harg2 : arg2.IsWhole) (arg3 : Memref sig .tc .vmem S2x128 .i32) (harg3 : arg3.IsWhole) (arg4 : Memref sig .tc .vmem S1188x128 .f32) (harg4 : arg4.IsWhole) (arg5 : Memref sig .tc .vmem S1536x1536 .fp8e4m3) (harg5 : arg5.IsWhole) (arg6 : Memref sig .tc .vmem S1536x768 .i8) (harg6 : arg6.IsWhole) (arg7 : Memref sig .tc .vmem S12x1536 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128x1536 .fp8e4m3) (harg11 : arg11.IsWhole) (arg12 : Memref sig .tc .vmem S2x128 .f32) (harg12 : arg12.IsWhole) (arg13 : Memref sig .tc .vmem S1536x256 .fp8e4m3) (harg13 : arg13.IsWhole) (arg14 : Memref sig .tc .vmem S768x256 .bf16) (harg14 : arg14.IsWhole) (arg15 : Memref sig .tc .vmem S768x256 .bf16) (harg15 : arg15.IsWhole) (arg16 : Memref sig .tc .vmem S2x128 .f32) (harg16 : arg16.IsWhole) (arg17 : Memref sig .tc .vmem S7x8x256 .f32) (harg17 : arg17.IsWhole) (hc0 : ¬cond0_0 i) (hc1 : ¬cond0_1 i)
    (x0 : Vec F S2x128x1536 .bf16) (x1 : Vec F S2x128x1536 .bf16) (x2 : Vec F S2x128 .i32) (x3 : Vec F S1188x128 .f32) (x4 : Vec F S1536x1536 .fp8e4m3) (x5 : Vec F S1536x768 .i8) (x6 : Vec F S12x1536 .f32) (xs0 : Vec F S1536x256 .fp8e4m3) (xs1 : Vec F S768x256 .bf16) (xs2 : Vec F S768x256 .bf16) (xs3 : Vec F S2x128 .f32) (xs4 : Vec F S7x8x256 .f32) :
    { LS4 : List (View.Piece (Elt F) S7x8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg13 fullShare xs0 ∗ owns (c : Thread nD τ) arg14 fullShare xs1 ∗ owns (c : Thread nD τ) arg15 fullShare xs2 ∗ owns (c : Thread nD τ) arg16 fullShare xs3 ∗ (∃ f, arg17.view.loc (c : Thread nD τ) ↦[arg17.view.set]{fullShare} arg17.view.writes (Elt F) f LS4)) -∗ K ⟨⟩))
          ⊢ wp frame (wpE (defs₀ (F := F)) Variants.none c none) E (cc0_heads_logprob_kl i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_heads_logprob_kl_eq_skeleton]; unfold cc0_heads_logprob_kl_skel
    simp only [k0_part97_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg13.eq_unread hfs0; obtain rfl := harg14.eq_unread hfs1; obtain rfl := harg15.eq_unread hfs2; obtain rfl := harg16.eq_unread hfs3; obtain rfl := harg17.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg13.read_unread _
      iexact HS0
    isplitl [HS1]
    · iexists _; isplitr; · ipureintro; exact harg14.read_unread _
      iexact HS1
    isplitl [HS2]
    · iexists _; isplitr; · ipureintro; exact harg15.read_unread _
      iexact HS2
    isplitl [HS3]
    · iexists _; isplitr; · ipureintro; exact harg16.read_unread _
      iexact HS3
    iexists _; iexact HS4

end Cert.KernelIdeal.Run

end
-- ==== Proof.RunC.lean ====
module

public import proofs.«01_k».proof.Proof.RunBase

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- Run of the kernel body at the last grid point: from whole buffers at the given contents the body runs to its end, the
    buffers it stores into holding the listed pieces (last store first). The run itself finds the pieces. -/
noncomputable def runC (c : Dev nD) (i : grid0.Coords) (arg1 : Memref sig .tc .vmem S2x128x1536 .bf16) (harg1 : arg1.IsWhole) (arg2 : Memref sig .tc .vmem S2x128x1536 .bf16) (harg2 : arg2.IsWhole) (arg3 : Memref sig .tc .vmem S2x128 .i32) (harg3 : arg3.IsWhole) (arg4 : Memref sig .tc .vmem S1188x128 .f32) (harg4 : arg4.IsWhole) (arg5 : Memref sig .tc .vmem S1536x1536 .fp8e4m3) (harg5 : arg5.IsWhole) (arg6 : Memref sig .tc .vmem S1536x768 .i8) (harg6 : arg6.IsWhole) (arg7 : Memref sig .tc .vmem S12x1536 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128x1536 .fp8e4m3) (harg11 : arg11.IsWhole) (arg12 : Memref sig .tc .vmem S2x128 .f32) (harg12 : arg12.IsWhole) (arg13 : Memref sig .tc .vmem S1536x256 .fp8e4m3) (harg13 : arg13.IsWhole) (arg14 : Memref sig .tc .vmem S768x256 .bf16) (harg14 : arg14.IsWhole) (arg15 : Memref sig .tc .vmem S768x256 .bf16) (harg15 : arg15.IsWhole) (arg16 : Memref sig .tc .vmem S2x128 .f32) (harg16 : arg16.IsWhole) (arg17 : Memref sig .tc .vmem S7x8x256 .f32) (harg17 : arg17.IsWhole) (hc0 : ¬cond0_0 i) (hc1 : cond0_1 i)
    (x0 : Vec F S2x128x1536 .bf16) (x1 : Vec F S2x128x1536 .bf16) (x2 : Vec F S2x128 .i32) (x3 : Vec F S1188x128 .f32) (x4 : Vec F S1536x1536 .fp8e4m3) (x5 : Vec F S1536x768 .i8) (x6 : Vec F S12x1536 .f32) (xs0 : Vec F S1536x256 .fp8e4m3) (xs1 : Vec F S768x256 .bf16) (xs2 : Vec F S768x256 .bf16) (xs3 : Vec F S2x128 .f32) (xs4 : Vec F S7x8x256 .f32) :
    Σ' (L7 : List (View.Piece (Elt F) S2x128 .f32)), Σ' (L8 : List (View.Piece (Elt F) S2x128 .f32)), Σ' (L9 : List (View.Piece (Elt F) S2x128 .f32)), { LS4 : List (View.Piece (Elt F) S7x8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg13 fullShare xs0 ∗ owns (c : Thread nD τ) arg14 fullShare xs1 ∗ owns (c : Thread nD τ) arg15 fullShare xs2 ∗ owns (c : Thread nD τ) arg16 fullShare xs3 ∗ (∃ f, arg17.view.loc (c : Thread nD τ) ↦[arg17.view.set]{fullShare} arg17.view.writes (Elt F) f LS4)) -∗ K ⟨⟩))
          ⊢ wp frame (wpE (defs₀ (F := F)) Variants.none c none) E (cc0_heads_logprob_kl i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_heads_logprob_kl_eq_skeleton]; unfold cc0_heads_logprob_kl_skel
    simp only [k0_part97_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg13.eq_unread hfs0; obtain rfl := harg14.eq_unread hfs1; obtain rfl := harg15.eq_unread hfs2; obtain rfl := harg16.eq_unread hfs3; obtain rfl := harg17.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]
    · iexists _; isplitr; · ipureintro; exact harg13.read_unread _
      iexact HS0
    isplitl [HS1]
    · iexists _; isplitr; · ipureintro; exact harg14.read_unread _
      iexact HS1
    isplitl [HS2]
    · iexists _; isplitr; · ipureintro; exact harg15.read_unread _
      iexact HS2
    isplitl [HS3]
    · iexists _; isplitr; · ipureintro; exact harg16.read_unread _
      iexact HS3
    iexists _; iexact HS4

end Cert.KernelIdeal.Run

end
-- ==== Proof.Bridge.lean ====
module

public import proofs.«01_k».proof.Proof.RunA
public import proofs.«01_k».proof.Proof.RunB
public import proofs.«01_k».proof.Proof.RunC
public import proofs.«01_k».proof.Proof.Point

@[expose] public section

set_option maxRecDepth 16384

noncomputable section

namespace Cert.KernelIdeal.Run

open Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A buffer written piece by piece, the pieces covering it, holds the pieces laid over one another. -/
theorem owns_canon (c : Dev nD) {s : Shape} {e : EltTy} (a : Memref sig .tc .vmem s e) (L L' : List (View.Piece (Elt F) s e))
    (hL : L = L') (hc : ∀ y, ∃ p ∈ L', y ∈ p.1.set) :
    (iprop(∃ f, a.view.loc (c : Thread nD τ) ↦[a.view.set]{fullShare} a.view.writes (Elt F) f L) : sProp 𝕄)
      ⊢ owns (c : Thread nD τ) a fullShare (View.canon L') := by
  subst hL
  iintro ⟨%f, H⟩
  unfold owns; iexists _; isplitr
  swap; · iexact H
  ipureintro; exact View.read_writes_eq_canon _ _ _ hc

theorem cover_append {s : Shape} {e : EltTy} (L L' : List (View.Piece (Elt F) s e))
    (hc : ∀ y, ∃ p ∈ L, y ∈ p.1.set) : ∀ y, ∃ p ∈ L ++ L', y ∈ p.1.set := fun y => by
  obtain ⟨p, hp, h⟩ := hc y
  exact ⟨p, List.mem_append_left _ hp, h⟩

/-- Pieces under a covering list do not show. -/
theorem canon_append {s : Shape} {e : EltTy} (L L' : List (View.Piece (Elt F) s e)) (y : s.Idx)
    (hc : ∃ p ∈ L, y ∈ p.1.set) : View.canon (L ++ L') y = View.canon L y := by
  induction L with
  | nil => obtain ⟨p, hp, _⟩ := hc; exact absurd hp List.not_mem_nil
  | cons p L ih =>
    rw [List.cons_append]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      obtain ⟨q, hq, hy⟩ := hc
      rcases List.mem_cons.mp hq with rfl | hq
      · exact absurd hy hm
      · exact ih ⟨q, hq, hy⟩

theorem cover_xt (x : Vec F S2x128x1536 .bf16) (y : S1536x256.Idx) : ∃ p ∈ xtP x, y ∈ p.1.set :=
  View.cover_of_tiledL (xtP x) S1536x128.size (by sl_kernel_rfl) y

theorem cover_par (k : Fin 2) (x : Vec F S2x128x1536 .bf16) (y : S768x256.Idx) : ∃ p ∈ parP k x, y ∈ p.1.set :=
  View.cover_of_tiledL (parP k x) S768x128.size (by sl_kernel_rfl) y

theorem cover_codes (x : Vec F S2x128x1536 .bf16) (y : S2x128x1536.Idx) : ∃ p ∈ codesP x, y ∈ p.1.set :=
  View.cover_of_tiledL (codesP x) S1x128x1536.size (by sl_kernel_rfl) y

theorem cover_scales (x : Vec F S2x128x1536 .bf16) (y : S2x128.Idx) : ∃ p ∈ scalesP x, y ∈ p.1.set :=
  View.cover_of_tiledL (scalesP x) S1x128.size (by sl_kernel_rfl) y

theorem cover_cp (s : Vec F S2x128 .f32) (y : S2x128.Idx) : ∃ p ∈ cpP s, y ∈ p.1.set :=
  View.cover_of_tiledL (cpP s) S2x128.size (by sl_kernel_rfl) y

theorem cover_rows (v : FVec F S1x256 .f32) (y : S2x128.Idx) : ∃ p ∈ rowsP v, y ∈ p.1.set :=
  View.cover_of_tiledL (rowsP v) S1x128.size (by sl_kernel_rfl) y

theorem cover_pieces (st : St F) (y : S7x8x256.Idx) : ∃ p ∈ st.pieces, y ∈ p.1.set :=
  View.cover_of_tiledL st.pieces S1x8x256.size (by sl_kernel_rfl) y

theorem cover_init (y : S7x8x256.Idx) : ∃ p ∈ initP (F := F), y ∈ p.1.set := by
  by_cases h : (y 0).val < 2
  · refine ⟨_, List.mem_cons_of_mem _ List.mem_cons_self, ?_⟩
    refine (LoadRect.mem_set _).mpr fun a => ?_
    fin_cases a
    · exact ⟨(y 0).val, h, by show (y 0).val = 0 + 1 * (y 0).val; omega⟩
    · exact ⟨(y 1).val, (y 1).isLt, by show (y 1).val = 0 + 1 * (y 1).val; omega⟩
    · exact ⟨(y 2).val, (y 2).isLt, by show (y 2).val = 0 + 1 * (y 2).val; omega⟩
  · have h7 : (y 0).val < 7 := (y 0).isLt
    refine ⟨_, List.mem_cons_self, ?_⟩
    refine (LoadRect.mem_set _).mpr fun a => ?_
    fin_cases a
    · exact ⟨(y 0).val - 2, by show (y 0).val - 2 < 5; omega, by show (y 0).val = 2 + 1 * ((y 0).val - 2); omega⟩
    · exact ⟨(y 1).val, (y 1).isLt, by show (y 1).val = 0 + 1 * (y 1).val; omega⟩
    · exact ⟨(y 2).val, (y 2).isLt, by show (y 2).val = 0 + 1 * (y 2).val; omega⟩

/-! ## The runs' pieces as functions of the buffers' contents -/

section Bridge

variable (c : Dev nD) (i : grid0.Coords) (arg1 : Memref sig .tc .vmem S2x128x1536 .bf16) (harg1 : arg1.IsWhole) (arg2 : Memref sig .tc .vmem S2x128x1536 .bf16) (harg2 : arg2.IsWhole) (arg3 : Memref sig .tc .vmem S2x128 .i32) (harg3 : arg3.IsWhole) (arg4 : Memref sig .tc .vmem S1188x128 .f32) (harg4 : arg4.IsWhole) (arg5 : Memref sig .tc .vmem S1536x1536 .fp8e4m3) (harg5 : arg5.IsWhole) (arg6 : Memref sig .tc .vmem S1536x768 .i8) (harg6 : arg6.IsWhole) (arg7 : Memref sig .tc .vmem S12x1536 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128x1536 .fp8e4m3) (harg11 : arg11.IsWhole) (arg12 : Memref sig .tc .vmem S2x128 .f32) (harg12 : arg12.IsWhole) (arg13 : Memref sig .tc .vmem S1536x256 .fp8e4m3) (harg13 : arg13.IsWhole) (arg14 : Memref sig .tc .vmem S768x256 .bf16) (harg14 : arg14.IsWhole) (arg15 : Memref sig .tc .vmem S768x256 .bf16) (harg15 : arg15.IsWhole) (arg16 : Memref sig .tc .vmem S2x128 .f32) (harg16 : arg16.IsWhole) (arg17 : Memref sig .tc .vmem S7x8x256 .f32) (harg17 : arg17.IsWhole)
    (x0 : Vec F S2x128x1536 .bf16) (x1 : Vec F S2x128x1536 .bf16) (x2 : Vec F S2x128 .i32) (x3 : Vec F S1188x128 .f32) (x4 : Vec F S1536x1536 .fp8e4m3) (x5 : Vec F S1536x768 .i8) (x6 : Vec F S12x1536 .f32) (xs0 : Vec F S1536x256 .fp8e4m3) (xs1 : Vec F S768x256 .bf16) (xs2 : Vec F S768x256 .bf16) (xs3 : Vec F S2x128 .f32) (xs4 : Vec F S7x8x256 .f32)

/-- The point's effect read through the buffers' views. -/
theorem seen : point i (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg13.view.read (Elt F) (harg13.unread xs0)) (arg14.view.read (Elt F) (harg14.unread xs1)) (arg15.view.read (Elt F) (harg15.unread xs2)) (arg16.view.read (Elt F) (harg16.unread xs3)) (St.ofPlanes (arg17.view.read (Elt F) (harg17.unread xs4))) = point i x2 x3 x4 x5 x6 xs0 xs1 xs2 xs3 (St.ofPlanes xs4) := by
  simp only [Memref.IsWhole.read_unread]

theorem runB_pieces (hc0 : ¬cond0_0 i) (hc1 : ¬cond0_1 i) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4).1 = (point i x2 x3 x4 x5 x6 xs0 xs1 xs2 xs3 (St.ofPlanes xs4)).pieces := by
  rw [← seen i arg3 harg3 arg4 harg4 arg5 harg5 arg6 harg6 arg7 harg7 arg13 harg13 arg14 harg14 arg15 harg15 arg16 harg16 arg17 harg17 x2 x3 x4 x5 x6 xs0 xs1 xs2 xs3 xs4]; sl_kernel_rfl

theorem runC_pieces (hc0 : ¬cond0_0 i) (hc1 : cond0_1 i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4).2.2.2.1 = (point i x2 x3 x4 x5 x6 xs0 xs1 xs2 xs3 (St.ofPlanes xs4)).pieces := by
  rw [← seen i arg3 harg3 arg4 harg4 arg5 harg5 arg6 harg6 arg7 harg7 arg13 harg13 arg14 harg14 arg15 harg15 arg16 harg16 arg17 harg17 x2 x3 x4 x5 x6 xs0 xs1 xs2 xs3 xs4]; sl_kernel_rfl

theorem runC_logp (hc0 : ¬cond0_0 i) (hc1 : cond0_1 i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4).1 = rowsP (outLog (point i x2 x3 x4 x5 x6 xs0 xs1 xs2 xs3 (St.ofPlanes xs4)).mp (point i x2 x3 x4 x5 x6 xs0 xs1 xs2 xs3 (St.ofPlanes xs4)).sp (point i x2 x3 x4 x5 x6 xs0 xs1 xs2 xs3 (St.ofPlanes xs4)).tp) := by
  rw [← seen i arg3 harg3 arg4 harg4 arg5 harg5 arg6 harg6 arg7 harg7 arg13 harg13 arg14 harg14 arg15 harg15 arg16 harg16 arg17 harg17 x2 x3 x4 x5 x6 xs0 xs1 xs2 xs3 xs4]; sl_kernel_rfl

theorem runC_logq (hc0 : ¬cond0_0 i) (hc1 : cond0_1 i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4).2.1 = rowsP (outLog (point i x2 x3 x4 x5 x6 xs0 xs1 xs2 xs3 (St.ofPlanes xs4)).mq (point i x2 x3 x4 x5 x6 xs0 xs1 xs2 xs3 (St.ofPlanes xs4)).sq (point i x2 x3 x4 x5 x6 xs0 xs1 xs2 xs3 (St.ofPlanes xs4)).tq) := by
  rw [← seen i arg3 harg3 arg4 harg4 arg5 harg5 arg6 harg6 arg7 harg7 arg13 harg13 arg14 harg14 arg15 harg15 arg16 harg16 arg17 harg17 x2 x3 x4 x5 x6 xs0 xs1 xs2 xs3 xs4]; sl_kernel_rfl

theorem runC_kl (hc0 : ¬cond0_0 i) (hc1 : cond0_1 i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4).2.2.1 = rowsP (outKl (point i x2 x3 x4 x5 x6 xs0 xs1 xs2 xs3 (St.ofPlanes xs4))) := by
  rw [← seen i arg3 harg3 arg4 harg4 arg5 harg5 arg6 harg6 arg7 harg7 arg13 harg13 arg14 harg14 arg15 harg15 arg16 harg16 arg17 harg17 x2 x3 x4 x5 x6 xs0 xs1 xs2 xs3 xs4]; sl_kernel_rfl

theorem runA_codes (hc0 : cond0_0 i) (hc1 : ¬cond0_1 i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).1 = codesP x0 :=
  (show _ = codesP (arg1.view.read (Elt F) (harg1.unread x0)) from by sl_kernel_rfl).trans (by rw [harg1.read_unread])

theorem runA_scales (hc0 : cond0_0 i) (hc1 : ¬cond0_1 i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.1 = scalesP x0 :=
  (show _ = scalesP (arg1.view.read (Elt F) (harg1.unread x0)) from by sl_kernel_rfl).trans (by rw [harg1.read_unread])

theorem runA_xt (hc0 : cond0_0 i) (hc1 : ¬cond0_1 i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.2.1 = xtP x0 :=
  (show _ = xtP (arg1.view.read (Elt F) (harg1.unread x0)) from by sl_kernel_rfl).trans (by rw [harg1.read_unread])

theorem runA_ev (hc0 : cond0_0 i) (hc1 : ¬cond0_1 i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.2.2.1 = parP 0 x1 :=
  (show _ = parP 0 (arg2.view.read (Elt F) (harg2.unread x1)) from by sl_kernel_rfl).trans (by rw [harg2.read_unread])

theorem runA_od (hc0 : cond0_0 i) (hc1 : ¬cond0_1 i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.2.2.2.1 = parP 1 x1 :=
  (show _ = parP 1 (arg2.view.read (Elt F) (harg2.unread x1)) from by sl_kernel_rfl).trans (by rw [harg2.read_unread])

theorem runA_cp (hc0 : cond0_0 i) (hc1 : ¬cond0_1 i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.2.2.2.2.1 = cpP (View.canon (scalesP x0)) :=
  (show _ = cpP (arg12.view.read (Elt F) (arg12.view.writes (Elt F) arg12.view.junk (scalesP (arg1.view.read (Elt F) (harg1.unread x0))))) from by sl_kernel_rfl).trans (by rw [harg1.read_unread, View.read_writes_eq_canon _ _ _ (cover_scales x0)])

theorem runA_stats (hc0 : cond0_0 i) (hc1 : ¬cond0_1 i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.2.2.2.2.2.1 = (point i x2 x3 x4 x5 x6 (View.canon (xtP x0)) (View.canon (parP 0 x1)) (View.canon (parP 1 x1)) (View.canon (cpP (View.canon (scalesP x0)))) (St.ofPlanes (View.canon initP))).pieces ++ initP :=
  (show _ = (point i (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg13.view.read (Elt F) (arg13.view.writes (Elt F) arg13.view.junk (xtP (arg1.view.read (Elt F) (harg1.unread x0))))) (arg14.view.read (Elt F) (arg14.view.writes (Elt F) arg14.view.junk (parP 0 (arg2.view.read (Elt F) (harg2.unread x1))))) (arg15.view.read (Elt F) (arg15.view.writes (Elt F) arg15.view.junk (parP 1 (arg2.view.read (Elt F) (harg2.unread x1))))) (arg16.view.read (Elt F) (arg16.view.writes (Elt F) arg16.view.junk (cpP (arg12.view.read (Elt F) (arg12.view.writes (Elt F) arg12.view.junk (scalesP (arg1.view.read (Elt F) (harg1.unread x0)))))))) (St.ofPlanes (arg17.view.read (Elt F) (arg17.view.writes (Elt F) arg17.view.junk initP)))).pieces ++ initP from by sl_kernel_rfl).trans (by simp only [Memref.IsWhole.read_unread]; rw [View.read_writes_eq_canon _ _ _ (cover_scales x0), View.read_writes_eq_canon _ _ _ (cover_cp _), View.read_writes_eq_canon _ _ _ (cover_xt x0), View.read_writes_eq_canon _ _ _ (cover_par 0 x1), View.read_writes_eq_canon _ _ _ (cover_par 1 x1), View.read_writes_eq_canon _ _ _ cover_init])

end Bridge

end Cert.KernelIdeal.Run

end
-- ==== Proof.Body.lean ====
module

public import proofs.«01_k».proof.Proof.Bridge

@[expose] public section

set_option maxRecDepth 16384

noncomputable section

namespace Cert.KernelIdeal.Run

open Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The first grid point. -/
abbrev t0 : Fin cfg0.N := ⟨0, by rw [show cfg0.N = 99 from N_0]; decide⟩

def xtC (c : Dev nD) : Vec F S1536x256 .fp8e4m3 := View.canon (xtP (iblk m c 0 t0))
def evC (c : Dev nD) : Vec F S768x256 .bf16 := View.canon (parP 0 (iblk m c 1 t0))
def odC (c : Dev nD) : Vec F S768x256 .bf16 := View.canon (parP 1 (iblk m c 1 t0))
def scC (c : Dev nD) : Vec F S2x128 .f32 := View.canon (scalesP (iblk m c 0 t0))
def cpC (c : Dev nD) : Vec F S2x128 .f32 := View.canon (cpP (scC m c))
def coC (c : Dev nD) : Vec F S2x128x1536 .fp8e4m3 := View.canon (codesP (iblk m c 0 t0))

/-- One grid point's effect on the statistics. -/
def step (c : Dev nD) (t : Fin cfg0.N) (st : St F) : St F :=
  point (grid0.coords t) (iblk m c 2 t) (iblk m c 3 t) (iblk m c 4 t) (iblk m c 5 t) (iblk m c 6 t) (xtC m c) (evC m c) (odC m c) (cpC m c) st

/-- The statistics after each grid point. -/
def stat (c : Dev nD) : (n : ℕ) → n < cfg0.N → St F
  | 0, h => step m c ⟨0, h⟩ (St.ofPlanes (View.canon initP))
  | n + 1, h => step m c ⟨n + 1, h⟩ (St.ofPlanes (View.canon (stat c n (Nat.lt_of_succ_lt h)).pieces))

/-- What the carried buffers hold before each grid point: anything before the first, the named contents after. -/
def inv (c : Dev nD) : (n : ℕ) → n ≤ cfg0.N → sProp 𝕄
  | 0, _ => Pipeline.ΦA spec0 c
  | n + 1, h => iprop(iprop(owns (c : Thread nD τ) scM0_0 fullShare (xtC m c) ∗ owns (c : Thread nD τ) scM0_1 fullShare (evC m c) ∗ owns (c : Thread nD τ) scM0_2 fullShare (odC m c) ∗ owns (c : Thread nD τ) scM0_3 fullShare (cpC m c) ∗ owns (c : Thread nD τ) scM0_4 fullShare (View.canon (stat m c n h).pieces)) ∗ (∃ r, prngReg c r))

theorem inv_succ (c : Dev nD) (n : ℕ) (h : n < cfg0.N) : inv m c (n + 1) h = iprop(iprop(owns (c : Thread nD τ) scM0_0 fullShare (xtC m c) ∗ owns (c : Thread nD τ) scM0_1 fullShare (evC m c) ∗ owns (c : Thread nD τ) scM0_2 fullShare (odC m c) ∗ owns (c : Thread nD τ) scM0_3 fullShare (cpC m c) ∗ owns (c : Thread nD τ) scM0_4 fullShare (View.canon (stat m c n h).pieces)) ∗ (∃ r, prngReg c r)) := rfl

/-- The proof data of the pipeline: inputs stay at their blocks, the first point leaves the codes and scales, the last the three sums. -/
def pdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => View.canon (rowsP (outLog (stat m c t.val t.isLt).mp (stat m c t.val t.isLt).sp (stat m c t.val t.isLt).tp))
    | ⟨8, _⟩ => View.canon (rowsP (outLog (stat m c t.val t.isLt).mq (stat m c t.val t.isLt).sq (stat m c t.val t.isLt).tq))
    | ⟨9, _⟩ => View.canon (rowsP (outKl (stat m c t.val t.isLt)))
    | ⟨10, _⟩ => coC m c
    | ⟨11, _⟩ => scC m c
  Φ t := inv m c t.val (Nat.le_of_lt_succ t.isLt)
  q _ := fullShare
  owed _ := 0

theorem pA (c : Dev nD) (w : Fin cfg0.W) : (pdat m 0 c).A w = V m c (Pipeline.arrRef spec0 w) := by
  dsimp only [pdat]

theorem inv_castSucc (c : Dev nD) (t : Fin cfg0.N) : (pdat m 0 c).Φ t.castSucc = inv m c t.val (Nat.le_of_lt t.isLt) := by
  dsimp only [pdat]; exact Pipeline.Dat.Φ_castSucc (inv m c) t

theorem post_0 (c : Dev nD) (t : Fin cfg0.N) : (pdat m 0 c).after 0 t = iblk m c 0 t := by dsimp only [pdat]
theorem post_1 (c : Dev nD) (t : Fin cfg0.N) : (pdat m 0 c).after 1 t = iblk m c 1 t := by dsimp only [pdat]
theorem post_2 (c : Dev nD) (t : Fin cfg0.N) : (pdat m 0 c).after 2 t = iblk m c 2 t := by dsimp only [pdat]
theorem post_3 (c : Dev nD) (t : Fin cfg0.N) : (pdat m 0 c).after 3 t = iblk m c 3 t := by dsimp only [pdat]
theorem post_4 (c : Dev nD) (t : Fin cfg0.N) : (pdat m 0 c).after 4 t = iblk m c 4 t := by dsimp only [pdat]
theorem post_5 (c : Dev nD) (t : Fin cfg0.N) : (pdat m 0 c).after 5 t = iblk m c 5 t := by dsimp only [pdat]
theorem post_6 (c : Dev nD) (t : Fin cfg0.N) : (pdat m 0 c).after 6 t = iblk m c 6 t := by dsimp only [pdat]
theorem post_10 (c : Dev nD) (t : Fin cfg0.N) : (pdat m 0 c).after 10 t = coC m c := by dsimp only [pdat]
theorem post_11 (c : Dev nD) (t : Fin cfg0.N) : (pdat m 0 c).after 11 t = scC m c := by dsimp only [pdat]

theorem pre_0 (c : Dev nD) (t : Fin cfg0.N) (d) : (pdat m 0 c).before 0 t d = iblk m c 0 t :=
  ((pdat m 0 c).before_in_eq_fetched 0 rfl (fun _ => rfl) (fun _ _ _ => rfl) (fun t => by rw [post_0]; unfold Dat.blockOf iblk; rw [pA]; try rfl) t d).trans
    (by unfold Dat.fetched Dat.blockOf iblk; rw [pA]; try rfl)
theorem pre_1 (c : Dev nD) (t : Fin cfg0.N) (d) : (pdat m 0 c).before 1 t d = iblk m c 1 t :=
  ((pdat m 0 c).before_in_eq_fetched 1 rfl (fun _ => rfl) (fun _ _ _ => rfl) (fun t => by rw [post_1]; unfold Dat.blockOf iblk; rw [pA]; try rfl) t d).trans
    (by unfold Dat.fetched Dat.blockOf iblk; rw [pA]; try rfl)
theorem pre_2 (c : Dev nD) (t : Fin cfg0.N) (d) : (pdat m 0 c).before 2 t d = iblk m c 2 t :=
  ((pdat m 0 c).before_in_eq_fetched 2 rfl (fun _ => rfl) (fun _ _ _ => rfl) (fun t => by rw [post_2]; unfold Dat.blockOf iblk; rw [pA]; try rfl) t d).trans
    (by unfold Dat.fetched Dat.blockOf iblk; rw [pA]; try rfl)
theorem pre_3 (c : Dev nD) (t : Fin cfg0.N) (d) : (pdat m 0 c).before 3 t d = iblk m c 3 t :=
  ((pdat m 0 c).before_in_eq_fetched 3 rfl (fun _ => rfl) (fun _ _ _ => rfl) (fun t => by rw [post_3]; unfold Dat.blockOf iblk; rw [pA]; try rfl) t d).trans
    (by unfold Dat.fetched Dat.blockOf iblk; rw [pA]; try rfl)
theorem pre_4 (c : Dev nD) (t : Fin cfg0.N) (d) : (pdat m 0 c).before 4 t d = iblk m c 4 t :=
  ((pdat m 0 c).before_in_eq_fetched 4 rfl (fun _ => rfl) (fun _ _ _ => rfl) (fun t => by rw [post_4]; unfold Dat.blockOf iblk; rw [pA]; try rfl) t d).trans
    (by unfold Dat.fetched Dat.blockOf iblk; rw [pA]; try rfl)
theorem pre_5 (c : Dev nD) (t : Fin cfg0.N) (d) : (pdat m 0 c).before 5 t d = iblk m c 5 t :=
  ((pdat m 0 c).before_in_eq_fetched 5 rfl (fun _ => rfl) (fun _ _ _ => rfl) (fun t => by rw [post_5]; unfold Dat.blockOf iblk; rw [pA]; try rfl) t d).trans
    (by unfold Dat.fetched Dat.blockOf iblk; rw [pA]; try rfl)
theorem pre_6 (c : Dev nD) (t : Fin cfg0.N) (d) : (pdat m 0 c).before 6 t d = iblk m c 6 t :=
  ((pdat m 0 c).before_in_eq_fetched 6 rfl (fun _ => rfl) (fun _ _ _ => rfl) (fun t => by rw [post_6]; unfold Dat.blockOf iblk; rw [pA]; try rfl) t d).trans
    (by unfold Dat.fetched Dat.blockOf iblk; rw [pA]; try rfl)

theorem N99 : cfg0.N = 99 := N_0

theorem idle_lo (t : Fin cfg0.N) (h : ¬t.val % 99 = 98) : (!(k0_cond2 (grid0.coords t) == 1#1)) = true := by
  have := fun h' => h ((hcond0_1 t).mp h')
  simpa [cond0_1] using this

theorem idle_hi (t : Fin cfg0.N) (h : ¬t.val % 99 = 0) : (!(k0_cond1 (grid0.coords t) == 1#1)) = true := by
  have := fun h' => h ((hcond0_0 t).mp h')
  simpa [cond0_0] using this

theorem live_lo (t : Fin cfg0.N) (h : t.val % 99 = 98) : (!(k0_cond2 (grid0.coords t) == 1#1)) = false := by
  have := (hcond0_1 t).mpr h
  simpa [cond0_1] using this

theorem live_hi (t : Fin cfg0.N) (h : t.val % 99 = 0) : (!(k0_cond1 (grid0.coords t) == 1#1)) = false := by
  have := (hcond0_0 t).mpr h
  simpa [cond0_0] using this

theorem left_idle {c : Dev nD} (dat : Dat τ (Elt F) Unit ℕ (UR sig nD τ) ℕ cfg0 c) (w : Fin cfg0.W) (t : Fin cfg0.N) (d)
    (h : cfg0.idle w (cfg0.grid.coords t) = true) : dat.left w t d = dat.before w t d := by unfold Dat.left; rw [h]

theorem left_live {c : Dev nD} (dat : Dat τ (Elt F) Unit ℕ (UR sig nD τ) ℕ cfg0 c) (w : Fin cfg0.W) (t : Fin cfg0.N) (d)
    (h : cfg0.idle w (cfg0.grid.coords t) = false) : dat.left w t d = dat.kept w t d := by unfold Dat.left; rw [h]

theorem kept_10 {c : Dev nD} (dat : Dat τ (Elt F) Unit ℕ (UR sig nD τ) ℕ cfg0 c) (t : Fin cfg0.N) (d) :
    dat.kept 10 t d = dat.after 10 t := rfl

/-- After the first point the buffer keeps what that point stored. -/
theorem keeps_10 (c : Dev nD) (d) : ∀ (n : ℕ) (h : n + 1 < 99), (pdat m 0 c).before 10 ⟨n + 1, h.trans_eq N99.symm⟩ d = (pdat m 0 c).after 10 t0
  | 0, h => by
    have hf : (cfg0.win 10).flush t0 = false := by
      rw [← Bool.not_eq_true, flush0_10]; decide
    have hi : cfg0.idle 10 (cfg0.grid.coords t0) = false := live_hi t0 rfl
    refine ((pdat m 0 c).before_of_pos 10 ⟨0 + 1, _⟩ (by simp) rfl d).trans ?_
    refine (if_neg ((Bool.not_eq_true _).mpr hf)).trans ?_
    exact (left_live _ 10 t0 d hi).trans (kept_10 _ t0 d)
  | n + 1, h => by
    have hf : (cfg0.win 10).flush ⟨n + 1, (Nat.lt_of_succ_lt h).trans_eq N99.symm⟩ = false := by
      rw [← Bool.not_eq_true, flush0_10]; show ¬(n + 1) % 99 = 98; omega
    have hi : cfg0.idle 10 (cfg0.grid.coords ⟨n + 1, (Nat.lt_of_succ_lt h).trans_eq N99.symm⟩) = true :=
      idle_hi ⟨n + 1, _⟩ (by show ¬(n + 1) % 99 = 0; omega)
    refine ((pdat m 0 c).before_of_pos 10 ⟨n + 1 + 1, _⟩ (by simp) rfl d).trans ?_
    refine (if_neg ((Bool.not_eq_true _).mpr hf)).trans ?_
    exact (left_idle _ 10 _ d hi).trans (keeps_10 c d n (by omega))

theorem kept_11 {c : Dev nD} (dat : Dat τ (Elt F) Unit ℕ (UR sig nD τ) ℕ cfg0 c) (t : Fin cfg0.N) (d) :
    dat.kept 11 t d = dat.after 11 t := rfl

/-- After the first point the buffer keeps what that point stored. -/
theorem keeps_11 (c : Dev nD) (d) : ∀ (n : ℕ) (h : n + 1 < 99), (pdat m 0 c).before 11 ⟨n + 1, h.trans_eq N99.symm⟩ d = (pdat m 0 c).after 11 t0
  | 0, h => by
    have hf : (cfg0.win 11).flush t0 = false := by
      rw [← Bool.not_eq_true, flush0_11]; decide
    have hi : cfg0.idle 11 (cfg0.grid.coords t0) = false := live_hi t0 rfl
    refine ((pdat m 0 c).before_of_pos 11 ⟨0 + 1, _⟩ (by simp) rfl d).trans ?_
    refine (if_neg ((Bool.not_eq_true _).mpr hf)).trans ?_
    exact (left_live _ 11 t0 d hi).trans (kept_11 _ t0 d)
  | n + 1, h => by
    have hf : (cfg0.win 11).flush ⟨n + 1, (Nat.lt_of_succ_lt h).trans_eq N99.symm⟩ = false := by
      rw [← Bool.not_eq_true, flush0_11]; show ¬(n + 1) % 99 = 98; omega
    have hi : cfg0.idle 11 (cfg0.grid.coords ⟨n + 1, (Nat.lt_of_succ_lt h).trans_eq N99.symm⟩) = true :=
      idle_hi ⟨n + 1, _⟩ (by show ¬(n + 1) % 99 = 0; omega)
    refine ((pdat m 0 c).before_of_pos 11 ⟨n + 1 + 1, _⟩ (by simp) rfl d).trans ?_
    refine (if_neg ((Bool.not_eq_true _).mpr hf)).trans ?_
    exact (left_idle _ 11 _ d hi).trans (keeps_11 c d n (by omega))

/-- What the body is called with at point `t`, -/
def obPre (c : Dev nD) (t : Fin cfg0.N) : sProp 𝕄 :=
  iprop((pdat m 0 c).Φ t.castSucc ∗ (pdat m 0 c).owesAt () t.castSucc
    ∗ (∃ d, owns (c : Thread nD τ) (ms0_0 t) fullShare ((pdat m 0 c).before 0 t d))
    ∗ (∃ d, owns (c : Thread nD τ) (ms0_1 t) fullShare ((pdat m 0 c).before 1 t d))
    ∗ (∃ d, owns (c : Thread nD τ) (ms0_2 t) fullShare ((pdat m 0 c).before 2 t d))
    ∗ (∃ d, owns (c : Thread nD τ) (ms0_3 t) fullShare ((pdat m 0 c).before 3 t d))
    ∗ (∃ d, owns (c : Thread nD τ) (ms0_4 t) fullShare ((pdat m 0 c).before 4 t d))
    ∗ (∃ d, owns (c : Thread nD τ) (ms0_5 t) fullShare ((pdat m 0 c).before 5 t d))
    ∗ (∃ d, owns (c : Thread nD τ) (ms0_6 t) fullShare ((pdat m 0 c).before 6 t d))
    ∗ (∃ d, owns (c : Thread nD τ) (ms0_7 t) fullShare ((pdat m 0 c).before 7 t d))
    ∗ (∃ d, owns (c : Thread nD τ) (ms0_8 t) fullShare ((pdat m 0 c).before 8 t d))
    ∗ (∃ d, owns (c : Thread nD τ) (ms0_9 t) fullShare ((pdat m 0 c).before 9 t d))
    ∗ (∃ d, owns (c : Thread nD τ) (ms0_10 t) fullShare ((pdat m 0 c).before 10 t d))
    ∗ (∃ d, owns (c : Thread nD τ) (ms0_11 t) fullShare ((pdat m 0 c).before 11 t d)))

/-- and what it returns. -/
def obPost (c : Dev nD) (t : Fin cfg0.N) : sProp 𝕄 :=
  iprop((pdat m 0 c).Φ t.succ ∗ (pdat m 0 c).owesAt () t.succ
    ∗ (pdat m 0 c).leavesExact 0 t
    ∗ (pdat m 0 c).leavesExact 1 t
    ∗ (pdat m 0 c).leavesExact 2 t
    ∗ (pdat m 0 c).leavesExact 3 t
    ∗ (pdat m 0 c).leavesExact 4 t
    ∗ (pdat m 0 c).leavesExact 5 t
    ∗ (pdat m 0 c).leavesExact 6 t
    ∗ (pdat m 0 c).leavesExact 7 t
    ∗ (pdat m 0 c).leavesExact 8 t
    ∗ (pdat m 0 c).leavesExact 9 t
    ∗ (pdat m 0 c).leavesExact 10 t
    ∗ (pdat m 0 c).leavesExact 11 t)

/-- The statistics' planes over earlier stores. -/
theorem owns_stats (c : Dev nD) (a : Memref sig .tc .vmem S7x8x256 .f32) (L : List (View.Piece (Elt F) S7x8x256 .f32)) (st : St F)
    (hL : L = st.pieces ++ initP) :
    (iprop(∃ f, a.view.loc (c : Thread nD τ) ↦[a.view.set]{fullShare} a.view.writes (Elt F) f L) : sProp 𝕄)
      ⊢ owns (c : Thread nD τ) a fullShare (View.canon st.pieces) := by
  rw [← show View.canon (st.pieces ++ initP) = View.canon st.pieces from funext fun y => canon_append _ _ y (cover_pieces st y)]
  exact owns_canon c a _ _ hL (cover_append _ _ (cover_pieces st))

/-- Before a later point the carried buffers hold what the point before left. -/
theorem inv_pos (c : Dev nD) (n : ℕ) (h : n + 1 ≤ cfg0.N) : inv m c (n + 1) h = iprop(iprop(owns (c : Thread nD τ) scM0_0 fullShare (xtC m c) ∗ owns (c : Thread nD τ) scM0_1 fullShare (evC m c) ∗ owns (c : Thread nD τ) scM0_2 fullShare (odC m c) ∗ owns (c : Thread nD τ) scM0_3 fullShare (cpC m c) ∗ owns (c : Thread nD τ) scM0_4 fullShare (View.canon (stat m c n h).pieces)) ∗ (∃ r, prngReg c r)) := rfl

theorem post_7 (c : Dev nD) (t : Fin cfg0.N) : (pdat m 0 c).after 7 t = View.canon (rowsP (outLog (stat m c t.val t.isLt).mp (stat m c t.val t.isLt).sp (stat m c t.val t.isLt).tp)) := by dsimp only [pdat]
theorem post_8 (c : Dev nD) (t : Fin cfg0.N) : (pdat m 0 c).after 8 t = View.canon (rowsP (outLog (stat m c t.val t.isLt).mq (stat m c t.val t.isLt).sq (stat m c t.val t.isLt).tq)) := by dsimp only [pdat]
theorem post_9 (c : Dev nD) (t : Fin cfg0.N) : (pdat m 0 c).after 9 t = View.canon (rowsP (outKl (stat m c t.val t.isLt))) := by dsimp only [pdat]

end Cert.KernelIdeal.Run

end
-- ==== Proof.BodyA.lean ====
module

public import proofs.«01_k».proof.Proof.Body

@[expose] public section

set_option maxRecDepth 16384

noncomputable section

namespace Cert.KernelIdeal.Run

open Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the first point: from anything in the carried buffers to the named contents. -/
theorem sound_first (c : Dev nD) (t : Fin cfg0.N) (ht : t = t0) (h0 : t.val % 99 = 0) (h1 : ¬t.val % 99 = 98) :
    obPre m c t ⊢ wp frame (wpE (defs₀ (F := F)) Variants.none c none) Set.univ (bodyAt0 t) (fun _ => obPost m c t) := by
  unfold obPre obPost bodyAt0
  simp only [pre_0, pre_1, pre_2, pre_3, pre_4, pre_5, pre_6]
  rw [show (pdat m 0 c).owesAt () t.succ = (pdat m 0 c).owesAt () t.castSucc from rfl]
  rw [show (pdat m 0 c).Φ t.succ = inv m c (t.val + 1) t.isLt from rfl, inv_succ]
  rw [show (pdat m 0 c).leavesExact 0 t = owns (c : Thread nD τ) (ms0_0 t) fullShare ((pdat m 0 c).after 0 t) from by
    unfold Dat.leavesExact; rw [show cfg0.idle 0 (cfg0.grid.coords t) = false from rfl]]
  rw [show (pdat m 0 c).leavesExact 1 t = owns (c : Thread nD τ) (ms0_1 t) fullShare ((pdat m 0 c).after 1 t) from by
    unfold Dat.leavesExact; rw [show cfg0.idle 1 (cfg0.grid.coords t) = false from rfl]]
  rw [show (pdat m 0 c).leavesExact 2 t = owns (c : Thread nD τ) (ms0_2 t) fullShare ((pdat m 0 c).after 2 t) from by
    unfold Dat.leavesExact; rw [show cfg0.idle 2 (cfg0.grid.coords t) = false from rfl]]
  rw [show (pdat m 0 c).leavesExact 3 t = owns (c : Thread nD τ) (ms0_3 t) fullShare ((pdat m 0 c).after 3 t) from by
    unfold Dat.leavesExact; rw [show cfg0.idle 3 (cfg0.grid.coords t) = false from rfl]]
  rw [show (pdat m 0 c).leavesExact 4 t = owns (c : Thread nD τ) (ms0_4 t) fullShare ((pdat m 0 c).after 4 t) from by
    unfold Dat.leavesExact; rw [show cfg0.idle 4 (cfg0.grid.coords t) = false from rfl]]
  rw [show (pdat m 0 c).leavesExact 5 t = owns (c : Thread nD τ) (ms0_5 t) fullShare ((pdat m 0 c).after 5 t) from by
    unfold Dat.leavesExact; rw [show cfg0.idle 5 (cfg0.grid.coords t) = false from rfl]]
  rw [show (pdat m 0 c).leavesExact 6 t = owns (c : Thread nD τ) (ms0_6 t) fullShare ((pdat m 0 c).after 6 t) from by
    unfold Dat.leavesExact; rw [show cfg0.idle 6 (cfg0.grid.coords t) = false from rfl]]
  simp only [post_0, post_1, post_2, post_3, post_4, post_5, post_6]
  rw [(pdat m 0 c).leavesExact_idle 7 t (idle_lo t h1) (by rw [← Bool.not_eq_true, flush0_7]; exact h1)]
  rw [(pdat m 0 c).leavesExact_idle 8 t (idle_lo t h1) (by rw [← Bool.not_eq_true, flush0_8]; exact h1)]
  rw [(pdat m 0 c).leavesExact_idle 9 t (idle_lo t h1) (by rw [← Bool.not_eq_true, flush0_9]; exact h1)]
  rw [show (pdat m 0 c).leavesExact 10 t = owns (c : Thread nD τ) (ms0_10 t) fullShare ((pdat m 0 c).after 10 t) from by
    unfold Dat.leavesExact; rw [show cfg0.idle 10 (cfg0.grid.coords t) = false from live_hi t h0]]
  rw [show (pdat m 0 c).leavesExact 11 t = owns (c : Thread nD τ) (ms0_11 t) fullShare ((pdat m 0 c).after 11 t) from by
    unfold Dat.leavesExact; rw [show cfg0.idle 11 (cfg0.grid.coords t) = false from live_hi t h0]]
  rw [post_10, post_11]
  rw [inv_castSucc m c t, show inv m c t.val (Nat.le_of_lt t.isLt) = Pipeline.ΦA spec0 c from by subst ht; rfl, PhiA0_eq]
  rw [show stat m c t.val t.isLt = step m c t (St.ofPlanes (View.canon initP)) from by subst ht; rfl]
  unfold xtC evC odC cpC scC coC step
  rw [← ht]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, H7, H8, H9, ⟨%d10, H10⟩, ⟨%d11, H11⟩⟩
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H10, H11, HS0, HS1, HS2, HS3, HS4⟩
  isplitl [HS0 HS1 HS2 HS3 HS4 Hg]
  · isplitl [HS0 HS1 HS2 HS3 HS4]
    · isplitl [HS0]
      · iapply (owns_canon c scM0_0 _ _ (runA_xt c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))) (cover_xt _)); iexact HS0
      isplitl [HS1]
      · iapply (owns_canon c scM0_1 _ _ (runA_ev c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))) (cover_par _ _)); iexact HS1
      isplitl [HS2]
      · iapply (owns_canon c scM0_2 _ _ (runA_od c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))) (cover_par _ _)); iexact HS2
      isplitl [HS3]
      · iapply (owns_canon c scM0_3 _ _ (runA_cp c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))) (cover_cp _)); iexact HS3
      iapply (owns_stats c scM0_4 _ _ (runA_stats c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h)))); iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (owns_canon c _ _ _ (runA_codes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))) (cover_codes _)); iexact H10
  iapply (owns_canon c _ _ _ (runA_scales c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))) (cover_scales _)); iexact H11

end Cert.KernelIdeal.Run

end
-- ==== Proof.BodyB.lean ====
module

public import proofs.«01_k».proof.Proof.Body

@[expose] public section

set_option maxRecDepth 16384

noncomputable section

namespace Cert.KernelIdeal.Run

open Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at a middle point. -/
theorem sound_middle (c : Dev nD) (t : Fin cfg0.N) (n : ℕ) (hn : n + 1 < cfg0.N) (ht : t = ⟨n + 1, hn⟩) (h0 : ¬t.val % 99 = 0) (h1 : ¬t.val % 99 = 98) :
    obPre m c t ⊢ wp frame (wpE (defs₀ (F := F)) Variants.none c none) Set.univ (bodyAt0 t) (fun _ => obPost m c t) := by
  unfold obPre obPost bodyAt0
  simp only [pre_0, pre_1, pre_2, pre_3, pre_4, pre_5, pre_6]
  rw [show (pdat m 0 c).owesAt () t.succ = (pdat m 0 c).owesAt () t.castSucc from rfl]
  rw [show (pdat m 0 c).Φ t.succ = inv m c (t.val + 1) t.isLt from rfl, inv_succ]
  rw [show (pdat m 0 c).leavesExact 0 t = owns (c : Thread nD τ) (ms0_0 t) fullShare ((pdat m 0 c).after 0 t) from by
    unfold Dat.leavesExact; rw [show cfg0.idle 0 (cfg0.grid.coords t) = false from rfl]]
  rw [show (pdat m 0 c).leavesExact 1 t = owns (c : Thread nD τ) (ms0_1 t) fullShare ((pdat m 0 c).after 1 t) from by
    unfold Dat.leavesExact; rw [show cfg0.idle 1 (cfg0.grid.coords t) = false from rfl]]
  rw [show (pdat m 0 c).leavesExact 2 t = owns (c : Thread nD τ) (ms0_2 t) fullShare ((pdat m 0 c).after 2 t) from by
    unfold Dat.leavesExact; rw [show cfg0.idle 2 (cfg0.grid.coords t) = false from rfl]]
  rw [show (pdat m 0 c).leavesExact 3 t = owns (c : Thread nD τ) (ms0_3 t) fullShare ((pdat m 0 c).after 3 t) from by
    unfold Dat.leavesExact; rw [show cfg0.idle 3 (cfg0.grid.coords t) = false from rfl]]
  rw [show (pdat m 0 c).leavesExact 4 t = owns (c : Thread nD τ) (ms0_4 t) fullShare ((pdat m 0 c).after 4 t) from by
    unfold Dat.leavesExact; rw [show cfg0.idle 4 (cfg0.grid.coords t) = false from rfl]]
  rw [show (pdat m 0 c).leavesExact 5 t = owns (c : Thread nD τ) (ms0_5 t) fullShare ((pdat m 0 c).after 5 t) from by
    unfold Dat.leavesExact; rw [show cfg0.idle 5 (cfg0.grid.coords t) = false from rfl]]
  rw [show (pdat m 0 c).leavesExact 6 t = owns (c : Thread nD τ) (ms0_6 t) fullShare ((pdat m 0 c).after 6 t) from by
    unfold Dat.leavesExact; rw [show cfg0.idle 6 (cfg0.grid.coords t) = false from rfl]]
  simp only [post_0, post_1, post_2, post_3, post_4, post_5, post_6]
  rw [(pdat m 0 c).leavesExact_idle 7 t (idle_lo t h1) (by rw [← Bool.not_eq_true, flush0_7]; exact h1)]
  rw [(pdat m 0 c).leavesExact_idle 8 t (idle_lo t h1) (by rw [← Bool.not_eq_true, flush0_8]; exact h1)]
  rw [(pdat m 0 c).leavesExact_idle 9 t (idle_lo t h1) (by rw [← Bool.not_eq_true, flush0_9]; exact h1)]
  rw [(pdat m 0 c).leavesExact_idle 10 t (idle_hi t h0) (by rw [← Bool.not_eq_true, flush0_10]; exact h1)]
  rw [(pdat m 0 c).leavesExact_idle 11 t (idle_hi t h0) (by rw [← Bool.not_eq_true, flush0_11]; exact h1)]
  have hst : stat m c t.val t.isLt = step m c t (St.ofPlanes (View.canon (stat m c n (Nat.lt_of_succ_lt hn)).pieces)) := by subst ht; rfl
  rw [inv_castSucc m c t, show inv m c t.val (Nat.le_of_lt t.isLt) = inv m c (n + 1) (Nat.le_of_lt hn) from by subst ht; rfl, inv_pos]
  rw [hst]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, H7, H8, H9, H10, H11⟩
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _ _ _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  rw [runB_pieces]
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iapply (owns_canon c scM0_4 _ _ rfl (cover_pieces _)); iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Run

end
-- ==== Proof.BodyC.lean ====
module

public import proofs.«01_k».proof.Proof.Body

@[expose] public section

set_option maxRecDepth 16384

noncomputable section

namespace Cert.KernelIdeal.Run

open Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the last point. -/
theorem sound_last (c : Dev nD) (t : Fin cfg0.N) (n : ℕ) (hn : n + 1 < cfg0.N) (ht : t = ⟨n + 1, hn⟩) (h0 : ¬t.val % 99 = 0) (h1 : t.val % 99 = 98) :
    obPre m c t ⊢ wp frame (wpE (defs₀ (F := F)) Variants.none c none) Set.univ (bodyAt0 t) (fun _ => obPost m c t) := by
  unfold obPre obPost bodyAt0
  simp only [pre_0, pre_1, pre_2, pre_3, pre_4, pre_5, pre_6]
  rw [show (pdat m 0 c).owesAt () t.succ = (pdat m 0 c).owesAt () t.castSucc from rfl]
  rw [show (pdat m 0 c).Φ t.succ = inv m c (t.val + 1) t.isLt from rfl, inv_succ]
  rw [show (pdat m 0 c).leavesExact 0 t = owns (c : Thread nD τ) (ms0_0 t) fullShare ((pdat m 0 c).after 0 t) from by
    unfold Dat.leavesExact; rw [show cfg0.idle 0 (cfg0.grid.coords t) = false from rfl]]
  rw [show (pdat m 0 c).leavesExact 1 t = owns (c : Thread nD τ) (ms0_1 t) fullShare ((pdat m 0 c).after 1 t) from by
    unfold Dat.leavesExact; rw [show cfg0.idle 1 (cfg0.grid.coords t) = false from rfl]]
  rw [show (pdat m 0 c).leavesExact 2 t = owns (c : Thread nD τ) (ms0_2 t) fullShare ((pdat m 0 c).after 2 t) from by
    unfold Dat.leavesExact; rw [show cfg0.idle 2 (cfg0.grid.coords t) = false from rfl]]
  rw [show (pdat m 0 c).leavesExact 3 t = owns (c : Thread nD τ) (ms0_3 t) fullShare ((pdat m 0 c).after 3 t) from by
    unfold Dat.leavesExact; rw [show cfg0.idle 3 (cfg0.grid.coords t) = false from rfl]]
  rw [show (pdat m 0 c).leavesExact 4 t = owns (c : Thread nD τ) (ms0_4 t) fullShare ((pdat m 0 c).after 4 t) from by
    unfold Dat.leavesExact; rw [show cfg0.idle 4 (cfg0.grid.coords t) = false from rfl]]
  rw [show (pdat m 0 c).leavesExact 5 t = owns (c : Thread nD τ) (ms0_5 t) fullShare ((pdat m 0 c).after 5 t) from by
    unfold Dat.leavesExact; rw [show cfg0.idle 5 (cfg0.grid.coords t) = false from rfl]]
  rw [show (pdat m 0 c).leavesExact 6 t = owns (c : Thread nD τ) (ms0_6 t) fullShare ((pdat m 0 c).after 6 t) from by
    unfold Dat.leavesExact; rw [show cfg0.idle 6 (cfg0.grid.coords t) = false from rfl]]
  simp only [post_0, post_1, post_2, post_3, post_4, post_5, post_6]
  rw [show (pdat m 0 c).leavesExact 7 t = owns (c : Thread nD τ) (ms0_7 t) fullShare ((pdat m 0 c).after 7 t) from by
    unfold Dat.leavesExact; rw [show cfg0.idle 7 (cfg0.grid.coords t) = false from live_lo t h1]]
  rw [show (pdat m 0 c).leavesExact 8 t = owns (c : Thread nD τ) (ms0_8 t) fullShare ((pdat m 0 c).after 8 t) from by
    unfold Dat.leavesExact; rw [show cfg0.idle 8 (cfg0.grid.coords t) = false from live_lo t h1]]
  rw [show (pdat m 0 c).leavesExact 9 t = owns (c : Thread nD τ) (ms0_9 t) fullShare ((pdat m 0 c).after 9 t) from by
    unfold Dat.leavesExact; rw [show cfg0.idle 9 (cfg0.grid.coords t) = false from live_lo t h1]]
  rw [show (pdat m 0 c).leavesExact 10 t = owns (c : Thread nD τ) (ms0_10 t) fullShare ((pdat m 0 c).after 10 t) from by
    unfold Dat.leavesExact; rw [show cfg0.idle 10 (cfg0.grid.coords t) = true from idle_hi t h0, (flush0_10 t).mpr h1]]
  rw [show (pdat m 0 c).leavesExact 11 t = owns (c : Thread nD τ) (ms0_11 t) fullShare ((pdat m 0 c).after 11 t) from by
    unfold Dat.leavesExact; rw [show cfg0.idle 11 (cfg0.grid.coords t) = true from idle_hi t h0, (flush0_11 t).mpr h1]]
  have hN := N99
  have k10 : ∀ d, (pdat m 0 c).before 10 t d = (pdat m 0 c).after 10 t := fun d => by subst ht; exact keeps_10 m c d n (by omega)
  have k11 : ∀ d, (pdat m 0 c).before 11 t d = (pdat m 0 c).after 11 t := fun d => by subst ht; exact keeps_11 m c d n (by omega)
  simp only [k10, k11]
  have hst : stat m c t.val t.isLt = step m c t (St.ofPlanes (View.canon (stat m c n (Nat.lt_of_succ_lt hn)).pieces)) := by subst ht; rfl
  rw [inv_castSucc m c t, show inv m c t.val (Nat.le_of_lt t.isLt) = inv m c (n + 1) (Nat.le_of_lt hn) from by subst ht; rfl, inv_pos]
  rw [post_7, post_8, post_9]
  rw [hst]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) _ _ _ _ _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  rw [runC_pieces]
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iapply (owns_canon c scM0_4 _ _ rfl (cover_pieces _)); iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (owns_canon c _ _ _ (runC_logp c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (xtC m c) (evC m c) (odC m c) (cpC m c) (View.canon (stat m c n (Nat.lt_of_succ_lt hn)).pieces) (fun h => h0 ((hcond0_0 t).mp h)) ((hcond0_1 t).mpr h1)) (cover_rows _)); iexact H7
  isplitl [H8]
  · iapply (owns_canon c _ _ _ (runC_logq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (xtC m c) (evC m c) (odC m c) (cpC m c) (View.canon (stat m c n (Nat.lt_of_succ_lt hn)).pieces) (fun h => h0 ((hcond0_0 t).mp h)) ((hcond0_1 t).mpr h1)) (cover_rows _)); iexact H8
  isplitl [H9]
  · iapply (owns_canon c _ _ _ (runC_kl c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (xtC m c) (evC m c) (odC m c) (cpC m c) (View.canon (stat m c n (Nat.lt_of_succ_lt hn)).pieces) (fun h => h0 ((hcond0_0 t).mp h)) ((hcond0_1 t).mpr h1)) (cover_rows _)); iexact H9
  isplitl [H10]; · iexact H10
  iexact H11

end Cert.KernelIdeal.Run

end
-- ==== Proof.Run.lean ====
module

public import proofs.«01_k».proof.Proof.BodyA
public import proofs.«01_k».proof.Proof.BodyB
public import proofs.«01_k».proof.Proof.BodyC

@[expose] public section

set_option maxRecDepth 16384

noncomputable section

namespace Cert.KernelIdeal.Run

open Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's row of the table is the body as `bodyAt0` spells it. -/
theorem row_eq (t : Fin cfg0.N) :
    defs₀ (F := F) .tc cfg0.body (cfg0.bodyArgs t (cfg0.slots t)) = bodyAt0 t := by
  unfold defs₀; rw [Defs.onTc_tc]

theorem sound (c : Dev nD) : ∀ t : Fin cfg0.N,
    obPre m c t ⊢ wp frame (wpE (defs₀ (F := F)) Variants.none c none) Set.univ (bodyAt0 t) (fun _ => obPost m c t)
  | ⟨0, h⟩ => sound_first m c _ rfl (by show 0 % 99 = 0; rfl) (by show ¬0 % 99 = 98; decide)
  | ⟨n + 1, h⟩ => by
    have hN := N99
    by_cases h1 : (n + 1) % 99 = 98
    · exact sound_last m c _ n h rfl (by show ¬(n + 1) % 99 = 0; omega) h1
    · exact sound_middle m c _ n h rfl (by show ¬(n + 1) % 99 = 0; omega) h1

theorem obligation (c : Dev nD) : BodyObligation (pdat (F := F) m 0 c) (defs₀ (F := F)) Variants.none () Set.univ := fun t => by
  rw [bigSep_W0, bigSep_W0, row_eq]
  exact triple_restated (sound m c t) rfl .rfl fun _ => .rfl

theorem inv_first (c : Dev nD) : Pipeline.ΦA spec0 c ⊢ (pdat m 0 c).Φ 0 := by
  rw [show (pdat m 0 c).Φ 0 = Pipeline.ΦA spec0 c from rfl]

theorem inv_last (c : Dev nD) : (pdat m 0 c).Φ (Fin.last cfg0.N) ⊢ Pipeline.ΦA spec0 c := by
  rw [show (pdat m 0 c).Φ (Fin.last cfg0.N) = inv m c (98 + 1) (le_of_eq N99.symm) from rfl, inv_pos, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
/-- The kernel's run: the arrays end at what the pipeline leaves, every counter at zero. -/
theorem run_all : θ_run defs (onTc (τ := τ) (main (F := F))) (s₀ m ρ) (fun r => (Pipeline.FramePost cfgs (pdat m) 0 (V m)) r ∧ r.2.sem = fun _ => 0) :=
  Pipeline.θ_run_frame_track (Q' := _) cfgs (pdat m) (0 : Fin 1) launch0 defs₀ Variants.none m ρ main
    (fun c => (obligation m c).loose) (fun c => (pdat m 0 c).share_full fun _ => rfl)
    (fun _ _ => rfl) (V m) (hmain m Variants.none) (pA m) (inv_first m) (inv_last m)

end Cert.KernelIdeal.Run

end
-- ==== Proof.Windows.lean ====
module

public import proofs.«01_k».proof.Proof.Logits
public import proofs.«01_k».proof.Proof.Run
public import Idealize.ShloMosaic.Lib.Pipeline.ValueKit
public import Idealize.ShloMosaic.Lib.Claim
public import Idealize.ShloMosaic.Lib.StableHlo.ReadAt

@[expose] public section

set_option maxRecDepth 16384
set_option maxHeartbeats 1000000

noncomputable section

namespace Cert.KernelIdeal.Run

open Cert.KernelIdeal.Gen Cert.KernelIdeal.Tile Cert.Online
open Idealize.ShloMosaic Idealize.ShloMosaic.TcCoe

variable (m : (ℓ : Loc nD τ sig) → Buf (Elt Ideal) ℓ)

/-! ## The arguments -/

abbrev aX (c : Dev nD) : Vec Ideal S2x128x1536 .bf16 := m ((c : Thread nD τ).loc main_arg0)
abbrev aXr (c : Dev nD) : Vec Ideal S2x128x1536 .bf16 := m ((c : Thread nD τ).loc main_arg1)
abbrev aW (c : Dev nD) : Vec Ideal S152064x1536 .fp8e4m3 := m ((c : Thread nD τ).loc main_arg2)
abbrev aG (c : Dev nD) : Vec Ideal S152064 .f32 := m ((c : Thread nD τ).loc main_arg3)
abbrev aQ (c : Dev nD) : Vec Ideal S152064x768 .i8 := m ((c : Thread nD τ).loc main_arg4)
abbrev aH (c : Dev nD) : Vec Ideal S152064x12 .f32 := m ((c : Thread nD τ).loc main_arg5)
abbrev aT (c : Dev nD) : Vec Ideal S2x128 .i32 := m ((c : Thread nD τ).loc main_arg6)

theorem coord : ∀ t : Fin cfg0.N, (grid0.coords t 0).val = t.val :=
  (by decide +kernel : ∀ t : Fin grid0.N, (grid0.coords t 0).val = t.val)

theorem at0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
theorem at1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem at5 : ∀ t : Fin cfg0.N, win0_5.index t 0 = t.val ∧ win0_5.index t 1 = 0 :=
  (by decide +kernel : ∀ t : Fin grid0.N, win0_5.index t 0 = t.val ∧ win0_5.index t 1 = 0)
theorem at6 : ∀ t : Fin cfg0.N, win0_6.index t 0 = 0 ∧ win0_6.index t 1 = t.val :=
  (by decide +kernel : ∀ t : Fin grid0.N, win0_6.index t 0 = 0 ∧ win0_6.index t 1 = t.val)

theorem win0 (c : Dev nD) (t : Fin cfg0.N) (b : Fin 2) (l : Fin 128) (d : Fin 1536) :
    iblk m c 0 t (ix3 b l d) = aX m c (ix3 b l d) := by
  blk_ext [iblk, V, (at0 t).1, (at0 t).2.1, (at0 t).2.2]
theorem win1 (c : Dev nD) (t : Fin cfg0.N) (b : Fin 2) (l : Fin 128) (d : Fin 1536) :
    iblk m c 1 t (ix3 b l d) = aXr m c (ix3 b l d) := by
  blk_ext [iblk, V, (at1 t).1, (at1 t).2.1, (at1 t).2.2]
theorem win2 (c : Dev nD) (t : Fin cfg0.N) (b : Fin 2) (l : Fin 128) :
    iblk m c 2 t (ix2 b l) = aT m c (ix2 b l) := by
  blk_ext [iblk, V, (at2 t).1, (at2 t).2]
theorem win4 (c : Dev nD) (t : Fin cfg0.N) (q : Fin 1536) (d : Fin 1536) (h : 1536 * t.val + q.val < 152064) :
    iblk m c 4 t (ix2 q d) = aW m c (ix2 ⟨1536 * t.val + q.val, h⟩ d) := by
  blk_ext [iblk, V, (at4 t).1, (at4 t).2]
theorem win5 (c : Dev nD) (t : Fin cfg0.N) (q : Fin 1536) (d : Fin 768) (h : 1536 * t.val + q.val < 152064) :
    iblk m c 5 t (ix2 q d) = aQ m c (ix2 ⟨1536 * t.val + q.val, h⟩ d) := by
  blk_ext [iblk, V, (at5 t).1, (at5 t).2]
theorem win3 (c : Dev nD) (t : Fin cfg0.N) (a : Fin 1188) (l : Fin 128) :
    iblk m c 3 t (ix2 a l) = aG m c (ix1 ⟨128 * a.val + l.val, by omega⟩) := by
  have e : iblk m c 3 t (ix2 a l) = V m c main_v0 (ix2 a l) := by
    blk_ext [iblk, (at3 t).1, (at3 t).2]
  rw [e]
  unfold V
  after_reads_at
  exact congrArg (aG m c) (congrArg ix1 (Fin.ext (by dsimp only; omega)))
theorem win6 (c : Dev nD) (t : Fin cfg0.N) (a : Fin 12) (q : Fin 1536) (h : 1536 * t.val + q.val < 152064) :
    iblk m c 6 t (ix2 a q) = aH m c (ix2 ⟨1536 * t.val + q.val, h⟩ a) := by
  have e : iblk m c 6 t (ix2 a q) = V m c main_v1 (ix2 a ⟨1536 * t.val + q.val, h⟩) := by
    blk_ext [iblk, (at6 t).1, (at6 t).2]
  rw [e]
  unfold V
  after_reads_at

end Cert.KernelIdeal.Run

end
-- ==== Proof.Canon.lean ====
module

public import proofs.«01_k».proof.Proof.Windows
public import proofs.«01_k».proof.Proof.Quant
public import proofs.«01_k».proof.Proof.TileVal

@[expose] public section

set_option maxRecDepth 16384
set_option maxHeartbeats 1000000

noncomputable section

namespace Cert.KernelIdeal.Run

open Cert.KernelIdeal.Gen Cert.KernelIdeal.Tile Cert.Online
open Idealize.ShloMosaic Idealize.ShloMosaic.TcCoe

variable (m : (ℓ : Loc nD τ sig) → Buf (Elt Ideal) ℓ)

/-! ## The carried buffers entry by entry -/

theorem is2 {n0 n1 : ℕ} (f : (⟨2, ![n0, n1]⟩ : Shape).Idx) (a : Fin n0) (b : Fin n1) (h0 : a.val = (f 0).val)
    (h1 : b.val = (f 1).val) : f = ix2 a b := by
  rw [eq_ix2 f]; exact congrArg₂ ix2 (Fin.ext h0.symm) (Fin.ext h1.symm)

theorem is3 {n0 n1 n2 : ℕ} (f : (⟨3, ![n0, n1, n2]⟩ : Shape).Idx) (a : Fin n0) (b : Fin n1) (c : Fin n2) (h0 : a.val = (f 0).val)
    (h1 : b.val = (f 1).val) (h2 : c.val = (f 2).val) : f = ix3 a b c := by
  rw [eq_ix3 f, (Fin.ext h0.symm : f 0 = a), (Fin.ext h1.symm : f 1 = b), (Fin.ext h2.symm : f 2 = c)]

theorem canon_codes (x : Vec Ideal S2x128x1536 .bf16) (hx : InRange x) (b : Fin 2) (l : Fin 128) (d : Fin 1536) :
    View.canon (codesP x) (ix3 b l d) = code x b l d := by
  unfold codesP
  canon_tiles y h using cover_codes x _
  · obtain rfl : b = 1 := Fin.ext (by simp only [ix3_0] at h0; show b.val = 1; omega)
    rw [is3 y 0 l d (by show 0 = _; omega) h1 h2]
    pointwise
    exact codesOf_eq hx 1 l d
  · obtain rfl : b = 0 := Fin.ext (by simp only [ix3_0] at h0; show b.val = 0; omega)
    rw [is3 y 0 l d (by show 0 = _; omega) h1 h2]
    pointwise
    exact codesOf_eq hx 0 l d

theorem canon_scales (x : Vec Ideal S2x128x1536 .bf16) (hx : InRange x) (b : Fin 2) (l : Fin 128) :
    View.canon (scalesP x) (ix2 b l) = rowScale x b l := by
  unfold scalesP
  canon_tiles y h using cover_scales x _
  · obtain rfl : b = 1 := Fin.ext (by simp only [ix2_0] at h0; show b.val = 1; omega)
    rw [is2 y 0 l (by show 0 = _; omega) h1]
    exact scaleRow_eq hx 1 l
  · obtain rfl : b = 0 := Fin.ext (by simp only [ix2_0] at h0; show b.val = 0; omega)
    rw [is2 y 0 l (by show 0 = _; omega) h1]
    exact scaleRow_eq hx 0 l

/-- The batch and the place in it of a token. -/
abbrev bt (tok : Fin 256) : Fin 2 := ⟨tok.val / 128, by omega⟩
abbrev lt (tok : Fin 256) : Fin 128 := ⟨tok.val % 128, by omega⟩

theorem canon_xt (x : Vec Ideal S2x128x1536 .bf16) (hx : InRange x) (d : Fin 1536) (tok : Fin 256) :
    View.canon (xtP x) (ix2 d tok) = code x (bt tok) (lt tok) d := by
  unfold xtP
  canon_tiles y h using cover_xt x _
  · have hb : bt tok = 1 := Fin.ext (by simp only [ix2_1] at h1; show tok.val / 128 = 1; omega)
    rw [is2 y d (lt tok) h0 (by simp only [ix2_1] at h1; show tok.val % 128 = _; omega), hb]
    exact codesT_eq hx 1 _ d
  · have hb : bt tok = 0 := Fin.ext (by simp only [ix2_1] at h1; show tok.val / 128 = 0; omega)
    rw [is2 y d (lt tok) h0 (by simp only [ix2_1] at h1; show tok.val % 128 = _; omega), hb]
    exact codesT_eq hx 0 _ d

theorem parity_apply (p : Fin 2) (x : Vec Ideal S2x128x1536 .bf16) (b : Fin 2) (h : Fin 768) (l : Fin 128) :
    parity p (batch x b.val) (ix2 h l) = x (ix3 b l ⟨2 * h.val + p.val, by omega⟩) := by
  rw [← batch_apply x b l]
  fin_cases p
  · pointwise [parity]
  · pointwise [parity]

theorem canon_par (p : Fin 2) (x : Vec Ideal S2x128x1536 .bf16) (h : Fin 768) (tok : Fin 256) :
    View.canon (parP p x) (ix2 h tok) = x (ix3 (bt tok) (lt tok) ⟨2 * h.val + p.val, by omega⟩) := by
  rw [← parity_apply p x (bt tok) h (lt tok)]
  unfold parP
  canon_tiles y h using cover_par p x _
  · have hb : bt tok = 1 := Fin.ext (by simp only [ix2_1] at h1; show tok.val / 128 = 1; omega)
    rw [is2 y h (lt tok) h0 (by simp only [ix2_1] at h1; show tok.val % 128 = _; omega), hb]; rfl
  · have hb : bt tok = 0 := Fin.ext (by simp only [ix2_1] at h1; show tok.val / 128 = 0; omega)
    rw [is2 y h (lt tok) h0 (by simp only [ix2_1] at h1; show tok.val % 128 = _; omega), hb]; rfl

theorem canon_cp (s : Vec Ideal S2x128 .f32) (b : Fin 2) (l : Fin 128) :
    View.canon (cpP s) (ix2 b l) = s (ix2 b l) * (l2e : EReal) := by
  rw [← show (Named.named κ "log2e" 0x3FB8AA3B#32 : Ideal .f32) = (l2e : EReal) from
    IdealRules.named_const.ideal_named_scalar _ _ _ _ rfl]
  unfold cpP
  canon_tiles y h using cover_cp s _
  rw [is2 y b l h0 h1]
  pointwise [cpOf]
  try rfl

theorem canon_rows (v : FVec Ideal S1x256 .f32) (b : Fin 2) (l : Fin 128) :
    View.canon (rowsP v) (ix2 b l) = v (ix2 0 ⟨128 * b.val + l.val, by omega⟩) := by
  unfold rowsP
  canon_tiles y h using cover_rows v _
  · obtain rfl : b = 1 := Fin.ext (by simp only [ix2_0] at h0; show b.val = 1; omega)
    rw [is2 y 0 l (by show 0 = _; omega) h1]
    pointwise
    try rfl
  · obtain rfl : b = 0 := Fin.ext (by simp only [ix2_0] at h0; show b.val = 0; omega)
    rw [is2 y 0 l (by show 0 = _; omega) h1]
    pointwise
    try rfl

theorem unplane_apply (v : FVec Ideal S8x256 .f32) (y : S1x8x256.Idx) : unplane v y = v (ix2 (y 1) (y 2)) := by
  have h0 : 0 = (y 0).val := by have : (y 0).val < 1 := (y 0).isLt; omega
  rw [is3 (n0 := 1) (n1 := 8) (n2 := 256) y 0 (y 1) (y 2) h0 rfl rfl]
  pointwise [unplane]

theorem canon_plane (st : St Ideal) (k : Fin 7) (r : Fin 8) (tok : Fin 256) : View.canon st.pieces (ix3 k r tok) =
    (![st.mp, st.mq, st.sp, st.sq, st.t, st.tp, st.tq] k) (ix2 r tok) := by
  unfold St.pieces
  canon_tiles y h using cover_pieces st _
  all_goals
    simp only [ix3_0, ix3_1, ix3_2] at h0 h1 h2
    rw [unplane_apply, (Fin.ext h1.symm : y 1 = r), (Fin.ext h2.symm : y 2 = tok)]
  · obtain rfl : k = 6 := Fin.ext (by show k.val = 6; omega)
    rfl
  · obtain rfl : k = 5 := Fin.ext (by show k.val = 5; omega)
    rfl
  · obtain rfl : k = 4 := Fin.ext (by show k.val = 4; omega)
    rfl
  · obtain rfl : k = 3 := Fin.ext (by show k.val = 3; omega)
    rfl
  · obtain rfl : k = 2 := Fin.ext (by show k.val = 2; omega)
    rfl
  · obtain rfl : k = 1 := Fin.ext (by show k.val = 1; omega)
    rfl
  · obtain rfl : k = 0 := Fin.ext (by show k.val = 0; omega)
    rfl

theorem planeAt_apply (x : Vec Ideal S7x8x256 .f32) (k : Fin 7) (r : Fin 8) (tok : Fin 256) :
    planeAt x k.val (ix2 r tok) = x (ix3 k r tok) := by
  have e : (⟨k.val % 7, Nat.mod_lt _ (by decide)⟩ : Fin 7) = k := Fin.ext (Nat.mod_eq_of_lt k.isLt)
  pointwise [planeAt, plane]
  try rw [e]

theorem canon_init (k : Fin 7) (r : Fin 8) (tok : Fin 256) : View.canon (initP (F := Ideal)) (ix3 k r tok) =
    if k.val < 2 then low else 0 := by
  unfold initP
  canon_tiles y h using cover_init _
  all_goals simp only [ix3_0, ix3_1, ix3_2] at h0 h1 h2
  · rw [if_neg (by omega), eq_ix3 (n0 := 5) (n1 := 8) (n2 := 256) y]; pointwise
  · rw [if_pos (by omega), eq_ix3 (n0 := 2) (n1 := 8) (n2 := 256) y]; pointwise; rfl

theorem canon_pieces (st : St Ideal) : St.ofPlanes (View.canon st.pieces) = st := by
  have e : ∀ k : Fin 7, planeAt (View.canon st.pieces) k.val = (![st.mp, st.mq, st.sp, st.sq, st.t, st.tp, st.tq] k) :=
    fun k => funext fun ix => by
      rw [eq_ix2 (n0 := 8) (n1 := 256) ix]; exact (planeAt_apply _ k _ _).trans (canon_plane st k _ _)
  exact congr (congr (congr (congr (congr (congr (congrArg St.mk (e 0)) (e 1)) (e 2)) (e 3)) (e 4)) (e 5)) (e 6)

variable {m} {c : Dev nD} (hx : InRange (aX m c))

theorem first0 : iblk m c 0 t0 = aX m c := funext fun ix => by
  rw [eq_ix3 (n0 := 2) (n1 := 128) (n2 := 1536) ix]; exact win0 m c t0 _ _ _

theorem first1 : iblk m c 1 t0 = aXr m c := funext fun ix => by
  rw [eq_ix3 (n0 := 2) (n1 := 128) (n2 := 1536) ix]; exact win1 m c t0 _ _ _

include hx in
theorem coC_apply (b : Fin 2) (l : Fin 128) (d : Fin 1536) : coC m c (ix3 b l d) = code (aX m c) b l d := by
  unfold coC; rw [first0]; exact canon_codes _ hx b l d

include hx in
theorem scC_apply (b : Fin 2) (l : Fin 128) : scC m c (ix2 b l) = rowScale (aX m c) b l := by
  unfold scC; rw [first0]; exact canon_scales _ hx b l

include hx in
theorem cpC_apply (b : Fin 2) (l : Fin 128) : cpC m c (ix2 b l) = rowScale (aX m c) b l * (l2e : EReal) := by
  unfold cpC; rw [canon_cp, scC_apply hx]

include hx in
theorem xtC_apply (d : Fin 1536) (tok : Fin 256) : xtC m c (ix2 d tok) = code (aX m c) (bt tok) (lt tok) d := by
  unfold xtC; rw [first0]; exact canon_xt _ hx d tok

theorem evC_apply (h : Fin 768) (tok : Fin 256) : evC m c (ix2 h tok) = aXr m c (ix3 (bt tok) (lt tok) ⟨2 * h.val, by omega⟩) := by
  unfold evC; rw [first1]; exact canon_par 0 _ h tok

theorem odC_apply (h : Fin 768) (tok : Fin 256) : odC m c (ix2 h tok) = aXr m c (ix3 (bt tok) (lt tok) ⟨2 * h.val + 1, by omega⟩) := by
  unfold odC; rw [first1]; exact canon_par 1 _ h tok

end Cert.KernelIdeal.Run

end
-- ==== Proof.State.lean ====
module

public import proofs.«01_k».proof.Proof.Canon

@[expose] public section

set_option maxRecDepth 16384
set_option maxHeartbeats 1000000

noncomputable section

namespace Cert.KernelIdeal.Run

open Cert.KernelIdeal.Gen Cert.KernelIdeal.Tile Cert.Online
open Idealize.ShloMosaic Idealize.ShloMosaic.TcCoe

/-! ## The logits -/

/-- The policy's logit of vocabulary row `v` at place `l` of batch `b`. -/
def polLogit (x : Vec Ideal S2x128x1536 .bf16) (w : Vec Ideal S152064x1536 .fp8e4m3) (g : Vec Ideal S152064 .f32)
    (b : Fin 2) (l : Fin 128) (v : Fin 152064) : EReal :=
  (∑ d : Fin 1536, code x b l d * w (ix2 v d)) * (rowScale x b l * g (ix1 v))

/-- The reference policy's. -/
def refLogit (xr : Vec Ideal S2x128x1536 .bf16) (q : Vec Ideal S152064x768 .i8) (h : Vec Ideal S152064x12 .f32)
    (b : Fin 2) (l : Fin 128) (v : Fin 152064) : EReal :=
  (∑ k : Fin 768, xr (ix3 b l ⟨2 * k.val, by omega⟩) * ((((lo (q (ix2 v k))).toInt : ℝ) : EReal) * h (ix2 v ⟨k.val / 64, by omega⟩)))
    + ∑ k : Fin 768, xr (ix3 b l ⟨2 * k.val + 1, by omega⟩) * ((((hi (q (ix2 v k))).toInt : ℝ) : EReal) * h (ix2 v ⟨k.val / 64, by omega⟩))

variable {m : (ℓ : Loc nD τ sig) → Buf (Elt Ideal) ℓ} {c : Dev nD} (hx : InRange (aX m c))

theorem rows8_apply (y : FVec Ideal S512x256 .f32) (k : ℕ) (hk : k < 64) (r : Fin 8) (tok : Fin 256) :
    rows8 y k (ix2 r tok) = y (ix2 ⟨8 * k + r.val, by omega⟩ tok) := by
  pointwise [rows8]
  refine congrArg y (congrArg (ix2 · tok) (Fin.ext ?_)); dsimp only; omega

theorem row2_apply (cp : Vec Ideal S2x128 .f32) (tok : Fin 256) :
    row2 (rowF cp 0) (rowF cp 1) (ix2 0 tok) = cp (ix2 (bt tok) (lt tok)) := by
  pointwise [row2, rowF]
  split_ifs with h
  · exact congrArg cp (congrArg₂ ix2 (Fin.ext (by show 0 = tok.val / 128; omega)) (Fin.ext (by show tok.val = tok.val % 128; omega)))
  · exact congrArg cp (congrArg₂ ix2 (Fin.ext (by show 1 = tok.val / 128; omega)) (Fin.ext (by show tok.val - 128 = tok.val % 128; omega)))
  · exact absurd rfl ‹_›

theorem wBlk_apply (x4 : Vec Ideal S1536x1536 .fp8e4m3) (s : ℕ) (hs : s < 3) (q : Fin 512) (d : Fin 1536) :
    wBlk x4 s (ix2 q d) = x4 (ix2 ⟨512 * s + q.val, by omega⟩ d) := by
  pointwise [wBlk]
  refine congrArg x4 ?_; congr 1; refine Fin.ext ?_; dsimp only; omega

theorem qBlk_apply (x5 : Vec Ideal S1536x768 .i8) (s : ℕ) (hs : s < 3) (q : Fin 512) (d : Fin 768) :
    qBlk x5 s (ix2 q d) = x5 (ix2 ⟨512 * s + q.val, by omega⟩ d) := by
  pointwise [qBlk]
  refine congrArg x5 ?_; congr 1; refine Fin.ext ?_; dsimp only; omega

theorem vocab_lt (t : Fin cfg0.N) {s : ℕ} (hs : s < 3) (q : Fin 512) : 1536 * t.val + (512 * s + q.val) < 152064 := by
  have : t.val < 99 := t.isLt.trans_eq N99
  omega

theorem ypAt_read (i : grid0.Coords) (x3 : Vec Ideal S1188x128 .f32) (x4 : Vec Ideal S1536x1536 .fp8e4m3)
    (xt : Vec Ideal S1536x256 .fp8e4m3) (cp : Vec Ideal S2x128 .f32) (s : ℕ) (hs : s < 3) (q : Fin 512) (tok : Fin 256) :
    ypAt i x3 x4 xt cp s (ix2 q tok) = (∑ d, x4 (ix2 ⟨512 * s + q.val, by omega⟩ d) * xt (ix2 d tok)) *
      x3 (ix2 ⟨12 * (i 0).val + 4 * s + q.val / 128, by have : (i 0).val < 99 := (i 0).isLt; omega⟩ ⟨q.val % 128, by omega⟩) *
      cp (ix2 (bt tok) (lt tok)) := by
  unfold ypAt
  rw [ypOf_apply _ _ _ _ hs, row2_apply, View.ld_unit_lit _ _ (by intro a; fin_cases a <;> rfl)]
  simp only [wBlk_apply _ _ hs]

theorem yqAt_read (x5 : Vec Ideal S1536x768 .i8) (x6 : Vec Ideal S12x1536 .f32) (ev od : Vec Ideal S768x256 .bf16) (s : ℕ)
    (hs : s < 3) (q : Fin 512) (tok : Fin 256) :
    yqAt x5 x6 ev od s (ix2 q tok) = (l2e : EReal) *
      ((∑ h : Fin 768, ev (ix2 h tok) * ((((lo (x5 (ix2 ⟨512 * s + q.val, by omega⟩ h))).toInt : ℝ) : EReal) * x6 (ix2 ⟨h.val / 64, by omega⟩ ⟨512 * s + q.val, by omega⟩)))
        + ∑ h : Fin 768, od (ix2 h tok) * ((((hi (x5 (ix2 ⟨512 * s + q.val, by omega⟩ h))).toInt : ℝ) : EReal) * x6 (ix2 ⟨h.val / 64, by omega⟩ ⟨512 * s + q.val, by omega⟩))) := by
  unfold yqAt
  rw [View.ld_unit_lit _ ev (by intro a; fin_cases a <;> rfl), View.ld_unit_lit _ od (by intro a; fin_cases a <;> rfl), yqOf_apply _ _ _ hs]
  simp only [qBlk_apply _ _ hs]

include hx in
theorem ypAt_apply (t : Fin cfg0.N) (s : ℕ) (hs : s < 3) (q : Fin 512) (tok : Fin 256) :
    ypAt (grid0.coords t) (iblk m c 3 t) (iblk m c 4 t) (xtC m c) (cpC m c) s (ix2 q tok)
      = (l2e : EReal) * polLogit (aX m c) (aW m c) (aG m c) (bt tok) (lt tok) ⟨1536 * t.val + (512 * s + q.val), vocab_lt t hs q⟩ := by
  rw [ypAt_read _ _ _ _ _ _ hs, cpC_apply hx, win3 m c t]
  have e1 := fun d : Fin 1536 => (congrArg₂ (fun a b : EReal => a * b) (win4 m c t ⟨512 * s + q.val, by omega⟩ d (vocab_lt t hs q)) (xtC_apply hx d tok)).trans (mul_comm _ _)
  have e2 : aG m c (ix1 ⟨128 * (12 * (grid0.coords t 0).val + 4 * s + q.val / 128) + q.val % 128, by
      have := coord t; have : t.val < 99 := t.isLt.trans_eq N99; omega⟩) = aG m c (ix1 ⟨1536 * t.val + (512 * s + q.val), vocab_lt t hs q⟩) :=
    congrArg (aG m c) (congrArg ix1 (Fin.ext (by have := coord t; dsimp only; omega)))
  unfold polLogit
  refine (congrArg₂ (fun z g : EReal => z * g * (rowScale (aX m c) (bt tok) (lt tok) * (l2e : EReal))) (Finset.sum_congr rfl fun d _ => e1 d) e2).trans ?_
  dsimp only
  ac_rfl

theorem yqAt_apply (t : Fin cfg0.N) (s : ℕ) (hs : s < 3) (q : Fin 512) (tok : Fin 256) :
    yqAt (iblk m c 5 t) (iblk m c 6 t) (evC m c) (odC m c) s (ix2 q tok)
      = (l2e : EReal) * refLogit (aXr m c) (aQ m c) (aH m c) (bt tok) (lt tok) ⟨1536 * t.val + (512 * s + q.val), vocab_lt t hs q⟩ := by
  rw [yqAt_read _ _ _ _ _ hs]
  unfold refLogit
  simp only [evC_apply, odC_apply]
  have e5 : ∀ h : Fin 768, iblk m c 5 t (ix2 ⟨512 * s + q.val, by omega⟩ h) = aQ m c (ix2 ⟨1536 * t.val + (512 * s + q.val), vocab_lt t hs q⟩ h) :=
    fun h => win5 m c t _ _ (vocab_lt t hs q)
  have e6 : ∀ h : Fin 12, iblk m c 6 t (ix2 h ⟨512 * s + q.val, by omega⟩) = aH m c (ix2 ⟨1536 * t.val + (512 * s + q.val), vocab_lt t hs q⟩ h) :=
    fun h => win6 m c t _ _ (vocab_lt t hs q)
  simp only [e5, e6]

/-! ## The statistics after every grid point -/

/-- The entries sublane `r` meets for one token, in order, of the row `y` of logits. -/
def seq (y : Fin 152064 → EReal) (r : Fin 8) (j : ℕ) : EReal :=
  if h : j < 19008 then (l2e : EReal) * y ⟨8 * j + r.val, by omega⟩ else 0

/-- The `j`-th of them is the target's. -/
def hits (w : BitVec 32) (r : Fin 8) (j : ℕ) : Prop := j < 19008 ∧ w = BitVec.ofNat 32 (8 * j + r.val)

instance (w : BitVec 32) (r : Fin 8) : DecidablePred (hits w r) := fun j => by unfold hits; infer_instance

theorem hits_one (w : BitVec 32) (r : Fin 8) (i j : ℕ) (hi : hits w r i) (hj : hits w r j) : i = j := by
  obtain ⟨hi, ei⟩ := hi
  obtain ⟨hj, ej⟩ := hj
  have := congrArg BitVec.toNat (ei.symm.trans ej)
  rw [BitVec.toNat_ofNat, BitVec.toNat_ofNat] at this
  omega

variable (m c) in
/-- The statistics of one token and sublane after `n` entries. -/
abbrev Good (n : ℕ) (r : Fin 8) (tok : Fin 256) (st : St Ideal) : Prop :=
  Holds (seq (polLogit (aX m c) (aW m c) (aG m c) (bt tok) (lt tok)) r) (seq (refLogit (aXr m c) (aQ m c) (aH m c) (bt tok) (lt tok)) r)
    (hits (aT m c (ix2 (bt tok) (lt tok))) r) n (ix2 r tok) st

theorem seq_read (y : Fin 152064 → EReal) (r : Fin 8) (t : Fin cfg0.N) {s : ℕ} (hs : s < 3) {k : ℕ} (hk : k < 64) (q : Fin 512)
    (hq : q.val = 8 * k + r.val) :
    (l2e : EReal) * y ⟨1536 * t.val + (512 * s + q.val), vocab_lt t hs q⟩ = seq y r (192 * t.val + 64 * s + k) := by
  have ht : t.val < 99 := t.isLt.trans_eq N99
  unfold seq
  rw [dif_pos (by omega)]
  exact congrArg (fun v => (l2e : EReal) * y v) (Fin.ext (by dsimp only; omega))

include hx in
theorem Good.tile {t : Fin cfg0.N} {s : ℕ} (hs : s < 3) {r : Fin 8} {tok : Fin 256} {st : St Ideal}
    (h : Good m c (192 * t.val + 64 * s) r tok st) :
    Good m c (192 * t.val + 64 * s + 64) r tok (Tile.tile (512 * s) (relOf (grid0.coords t) (rowI (iblk m c 2 t) 0) (rowI (iblk m c 2 t) 1))
      (ypAt (grid0.coords t) (iblk m c 3 t) (iblk m c 4 t) (xtC m c) (cpC m c) s)
      (yqAt (iblk m c 5 t) (iblk m c 6 t) (evC m c) (odC m c) s) st) := by
  have ht : t.val < 99 := t.isLt.trans_eq N99
  refine Holds.tile h (hits_one _ r) (fun k hk => ?_) (fun k hk => ?_) fun k hk => ?_
  · rw [rows8_apply _ _ hk, ypAt_apply hx t s hs]; exact seq_read _ r t hs hk _ rfl
  · rw [rows8_apply _ _ hk, yqAt_apply t s hs]; exact seq_read _ r t hs hk _ rfl
  · rw [relOf_apply, coord t]
    have e : (if h : tok.val < 128 then rowI (iblk m c 2 t) 0 (ix2 0 ⟨tok.val, h⟩) else rowI (iblk m c 2 t) 1 (ix2 0 ⟨tok.val - 128, by omega⟩) : BitVec 32)
        = aT m c (ix2 (bt tok) (lt tok)) := by
      rw [← win2 m c t]
      split_ifs with h
      · pointwise [rowI]
        exact congrArg (iblk m c 2 t) (congrArg₂ ix2 (Fin.ext (by show 0 = tok.val / 128; omega)) (Fin.ext (by show tok.val = tok.val % 128; omega)))
      · pointwise [rowI]
        exact congrArg (iblk m c 2 t) (congrArg₂ ix2 (Fin.ext (by show 1 = tok.val / 128; omega)) (Fin.ext (by show tok.val - 128 = tok.val % 128; omega)))
    rw [e]
    unfold hits
    rw [show 1536 * t.val + (512 * s + 8 * k) + r.val = 8 * (192 * t.val + 64 * s + k) + r.val by omega]
    exact ⟨fun h => ⟨by omega, h⟩, fun h => h.2⟩

include hx in
theorem Good.step {t : Fin cfg0.N} {r : Fin 8} {tok : Fin 256} {st : St Ideal} (h : Good m c (192 * t.val) r tok st) :
    Good m c (192 * (t.val + 1)) r tok (step m c t st) :=
  (((h.tile hx (s := 0) (by decide)).tile hx (s := 1) (by decide)).tile hx (s := 2) (by decide) :)

theorem good_init (r : Fin 8) (tok : Fin 256) : Good m c 0 r tok (St.ofPlanes (View.canon initP)) := by
  have e : ∀ k : Fin 7, planeAt (View.canon (initP (F := Ideal))) k.val (ix2 r tok) = if k.val < 2 then low else 0 := fun k =>
    (planeAt_apply _ k r tok).trans (canon_init k r tok)
  refine ⟨(e 0).trans ?_, (e 1).trans ?_, (e 2).trans ?_, (e 3).trans ?_, (e 4).trans ?_, (e 5).trans ?_, (e 6).trans ?_⟩ <;>
    simp [top, wsum, dsum, pick]

include hx in
theorem good_stat (r : Fin 8) (tok : Fin 256) : ∀ (n : ℕ) (h : n < cfg0.N), Good m c (192 * (n + 1)) r tok (stat m c n h)
  | 0, h => Good.step hx (t := ⟨0, h⟩) (good_init r tok)
  | n + 1, h => Good.step hx (t := ⟨n + 1, h⟩) (by
      have := good_stat r tok n (Nat.lt_of_succ_lt h)
      rw [canon_pieces]; exact this)

end Cert.KernelIdeal.Run

end
-- ==== Proof.Total.lean ====
module

public import proofs.«01_k».proof.Proof.State

@[expose] public section

set_option maxRecDepth 16384
set_option maxHeartbeats 1000000

noncomputable section

namespace Cert.KernelIdeal.Run

open Cert.KernelIdeal.Gen Cert.KernelIdeal.Tile Cert.Online
open Idealize.ShloMosaic Idealize.ShloMosaic.TcCoe
open Finset (range univ)

/-! ## The last point's reduction -/

/-- The eight sublanes together meet every vocabulary row once. -/
theorem regroup (f : Fin 152064 → EReal) (g : Fin 8 → ℕ → EReal)
    (h : ∀ (r : Fin 8) (j : ℕ) (hj : j < 19008), g r j = f ⟨8 * j + r.val, by omega⟩) :
    ∑ r, ∑ j ∈ range 19008, g r j = ∑ v, f v := by
  rw [← Equiv.sum_comp (finProdFinEquiv.trans (finCongr (show 19008 * 8 = 152064 by norm_num))), Fintype.sum_prod_type_right]
  refine Finset.sum_congr rfl fun r _ => ?_
  rw [Finset.sum_range]
  refine Finset.sum_congr rfl fun j _ => (h r j j.isLt).trans (congrArg f (Fin.ext ?_))
  show 8 * j.val + r.val = r.val + 8 * j.val
  omega

theorem seq_eq (y : Fin 152064 → EReal) (r : Fin 8) (j : ℕ) (hj : j < 19008) : seq y r j = (l2e : EReal) * y ⟨8 * j + r.val, by omega⟩ := by
  unfold seq; rw [dif_pos hj]

/-- The largest of all entries, at least `low`. -/
def peak (y : Fin 152064 → EReal) : EReal := max low (univ.sup fun v => (l2e : EReal) * y v)

theorem top_le_peak (y : Fin 152064 → EReal) (r : Fin 8) : top (seq y r) 19008 ≤ peak y := by
  refine max_le_max le_rfl (Finset.sup_le fun j hj => ?_)
  rw [seq_eq y r j (Finset.mem_range.1 hj)]
  exact Finset.le_sup (f := fun v => (l2e : EReal) * y v) (Finset.mem_univ _)

theorem peak_eq (y : Fin 152064 → EReal) (M : Fin 8 → EReal) (hM : ∀ r, M r = top (seq y r) 19008) :
    Finset.fold max (Ideal.ofBits .f32 0xFF800000#32) M univ = peak y := by
  rw [fold_max]
  refine le_antisymm (Finset.sup_le fun r _ => (hM r).trans_le (top_le_peak y r)) (max_le ?_ (Finset.sup_le fun v _ => ?_))
  · exact ((low_le_top (seq y 0) 19008).trans_eq (hM 0).symm).trans (Finset.le_sup (Finset.mem_univ _))
  · have e := seq_eq y ⟨v.val % 8, by omega⟩ (v.val / 8) (by omega)
    rw [show (⟨8 * (v.val / 8) + v.val % 8, by omega⟩ : Fin 152064) = v from Fin.ext (by dsimp only; omega)] at e
    rw [← e]
    refine (Tile.le_top _ 19008 _ (Finset.mem_range.2 (by omega))).trans ?_
    exact (hM _).symm.trans_le (Finset.le_sup (f := M) (Finset.mem_univ _))

theorem wsum_total (y : Fin 152064 → EReal) :
    ∑ r, Ideal.exp2 (top (seq y r) 19008 - peak y) * wsum (seq y r) (range 19008) (top (seq y r) 19008)
      = wsum (fun v => (l2e : EReal) * y v) univ (peak y) := by
  rw [Finset.sum_congr rfl fun r _ => wsum_rescale (seq y r) _ (Tile.le_top _ _) (top_le_peak y r) (top_ne_bot _ _)]
  exact regroup _ _ fun r j hj => by rw [seq_eq y r j hj]

theorem dsum_total (yp yq : Fin 152064 → EReal) :
    ∑ r, Ideal.exp2 (top (seq yp r) 19008 - peak yp) * (dsum (seq yp r) (seq yq r) (range 19008) (top (seq yp r) 19008) (top (seq yq r) 19008)
        + wsum (seq yp r) (range 19008) (top (seq yp r) 19008) * ((top (seq yp r) 19008 - peak yp) - (top (seq yq r) 19008 - peak yq)))
      = dsum (fun v => (l2e : EReal) * yp v) (fun v => (l2e : EReal) * yq v) univ (peak yp) (peak yq) := by
  rw [Finset.sum_congr rfl fun r _ => dsum_rescale (seq yp r) (seq yq r) _ (Tile.le_top _ _) (top_le_peak yp r) (top_ne_bot _ _)
    (Tile.le_top _ _) (top_le_peak yq r) (top_ne_bot _ _)]
  exact regroup _ _ fun r j hj => by rw [seq_eq yp r j hj, seq_eq yq r j hj]

theorem pick_total (w : BitVec 32) (y : Fin 152064 → EReal) :
    ∑ r, pick (hits w r) (seq y r) (range 19008) = (l2e : EReal) * ∑ v : Fin 152064, if w = BitVec.ofNat 32 v.val then y v else 0 := by
  rw [coe_mul_sum l2e_pos.le]
  refine regroup _ _ fun r j hj => ?_
  rw [seq_eq y r j hj, mul_ite, mul_zero]
  exact if_congr ⟨fun h => h.2, fun h => ⟨hj, h⟩⟩ rfl rfl

theorem log2e_named : (Named.named κ "log2e" 0x3FB8AA3B#32 : Ideal .f32) = (l2e : EReal) :=
  IdealRules.named_const.ideal_named_scalar _ _ _ _ rfl

theorem ln2_named : (Named.named κ "ln2" 0x3F317218#32 : Ideal .f32) = ((Real.log 2 : ℝ) : EReal) :=
  IdealRules.named_const.ideal_named_scalar _ _ _ _ rfl

/-- The log-probability of the target. -/
def logProb (w : BitVec 32) (z : Fin 152064 → EReal) : EReal :=
  ((∑ v : Fin 152064, if w = BitVec.ofNat 32 v.val then z v else 0) - univ.sup z) - Ideal.log (∑ v, Ideal.exp (z v - univ.sup z))

/-- The divergence of one row of logits from another. -/
def divergence (zp zq : Fin 152064 → EReal) : EReal :=
  (Ideal.div (∑ v, Ideal.exp (zp v - univ.sup zp) * (zp v - zq v)) (∑ v, Ideal.exp (zp v - univ.sup zp)) -
    (univ.sup zp + Ideal.log (∑ v, Ideal.exp (zp v - univ.sup zp)))) +
    (univ.sup zq + Ideal.log (∑ v, Ideal.exp (zq v - univ.sup zq)))

instance : Nonempty (Fin 152064) := ⟨0⟩

theorem outLog_eq (w : BitVec 32) (y : Fin 152064 → EReal) (M S H : FVec Ideal S8x256 .f32) (tok : Fin 256)
    (hM : ∀ r, M (ix2 r tok) = top (seq y r) 19008) (hS : ∀ r, S (ix2 r tok) = wsum (seq y r) (range 19008) (top (seq y r) 19008))
    (hH : ∀ r, H (ix2 r tok) = pick (hits w r) (seq y r) (range 19008)) : outLog M S H (ix2 0 tok) = logProb w y := by
  obtain ⟨N, hN⟩ := low_real
  pointwise [outLog, logTotal, total, below, colSum, colMax]
  rw [peak_eq y _ hM, log2e_named, ln2_named, Finset.sum_congr rfl fun r _ => hH r, pick_total w y]
  simp only [hM, hS]
  have e := wsum_total y
  unfold peak at e ⊢
  rw [hN] at e ⊢
  unfold logProb
  rw [← logp_eq y N, ← e]; rfl

theorem outKl_eq (yp yq : Fin 152064 → EReal) (hit : Fin 8 → ℕ → Prop) [∀ r, DecidablePred (hit r)] (st : St Ideal) (tok : Fin 256)
    (h : ∀ r, Holds (seq yp r) (seq yq r) (hit r) 19008 (ix2 r tok) st) : outKl st (ix2 0 tok) = divergence yp yq := by
  obtain ⟨N, hN⟩ := low_real
  pointwise [outKl, logTotal, total, below, colSum, colMax]
  rw [peak_eq yp _ fun r => (h r).mp, peak_eq yq _ fun r => (h r).mq, log2e_named, ln2_named]
  simp only [fun r => (h r).mp, fun r => (h r).mq, fun r => (h r).sp, fun r => (h r).sq, fun r => (h r).t]
  have ep := wsum_total yp
  have eq := wsum_total yq
  have ed := dsum_total yp yq
  unfold peak at ep eq ed ⊢
  rw [hN] at ep eq ed ⊢
  unfold divergence
  rw [← kl_eq yp yq N, ← ep, ← eq, ← ed]; rfl

end Cert.KernelIdeal.Run

end
-- ==== Proof.Result.lean ====
module

public import proofs.«01_k».proof.Proof.Total

@[expose] public section

set_option maxRecDepth 16384
set_option maxHeartbeats 1000000

noncomputable section

namespace Cert.KernelIdeal.Run

open Cert.KernelIdeal.Gen Cert.KernelIdeal.Tile Cert.Online
open Idealize.ShloMosaic Idealize.ShloMosaic.TcCoe
open Finset (range univ)

variable {m : (ℓ : Loc nD τ sig) → Buf (Elt Ideal) ℓ} {c : Dev nD} (hx : InRange (aX m c))

/-! ## The results -/

/-- The last grid point. -/
abbrev tN : Fin cfg0.N := ⟨98, by rw [N99]; decide⟩

theorem final7 (ix : S2x128.Idx) : (pdat m 0 c).arrAt 7 cfg0.N ix = (pdat m 0 c).after 7 tN ix :=
  (pdat m 0 c).arrAt_emb_eq_after_last 7 tN (by decide +kernel) ix
theorem final8 (ix : S2x128.Idx) : (pdat m 0 c).arrAt 8 cfg0.N ix = (pdat m 0 c).after 8 tN ix :=
  (pdat m 0 c).arrAt_emb_eq_after_last 8 tN (by decide +kernel) ix
theorem final9 (ix : S2x128.Idx) : (pdat m 0 c).arrAt 9 cfg0.N ix = (pdat m 0 c).after 9 tN ix :=
  (pdat m 0 c).arrAt_emb_eq_after_last 9 tN (by decide +kernel) ix
theorem final10 (ix : S2x128x1536.Idx) : (pdat m 0 c).arrAt 10 cfg0.N ix = (pdat m 0 c).after 10 tN ix :=
  (pdat m 0 c).arrAt_emb_eq_after_last 10 tN (by decide +kernel) ix
theorem final11 (ix : S2x128.Idx) : (pdat m 0 c).arrAt 11 cfg0.N ix = (pdat m 0 c).after 11 tN ix :=
  (pdat m 0 c).arrAt_emb_eq_after_last 11 tN (by decide +kernel) ix

/-- The token at place `l` of batch `b`. -/
abbrev tk (b : Fin 2) (l : Fin 128) : Fin 256 := ⟨128 * b.val + l.val, by omega⟩

include hx in
theorem good_last (b : Fin 2) (l : Fin 128) (r : Fin 8) :
    Holds (seq (polLogit (aX m c) (aW m c) (aG m c) b l) r) (seq (refLogit (aXr m c) (aQ m c) (aH m c) b l) r)
      (hits (aT m c (ix2 b l)) r) 19008 (ix2 r (tk b l)) (stat m c tN.val tN.isLt) := by
  have h := good_stat hx r (tk b l) 98 tN.isLt
  have eb : bt (tk b l) = b := Fin.ext (by show (128 * b.val + l.val) / 128 = b.val; omega)
  have el : lt (tk b l) = l := Fin.ext (by show (128 * b.val + l.val) % 128 = l.val; omega)
  unfold Good at h
  rw [eb, el] at h
  exact h

include hx in
theorem res_logp (b : Fin 2) (l : Fin 128) : (pdat m 0 c).arrAt 7 cfg0.N (ix2 b l)
    = logProb (aT m c (ix2 b l)) (polLogit (aX m c) (aW m c) (aG m c) b l) := by
  have h := good_last hx b l
  refine (final7 _).trans (((congrFun (post_7 m c tN) _).trans (canon_rows _ b l)).trans ?_)
  exact outLog_eq _ _ _ _ _ (tk b l) (fun r => (h r).mp) (fun r => (h r).sp) (fun r => (h r).tp)

include hx in
theorem res_logq (b : Fin 2) (l : Fin 128) : (pdat m 0 c).arrAt 8 cfg0.N (ix2 b l)
    = logProb (aT m c (ix2 b l)) (refLogit (aXr m c) (aQ m c) (aH m c) b l) := by
  have h := good_last hx b l
  refine (final8 _).trans (((congrFun (post_8 m c tN) _).trans (canon_rows _ b l)).trans ?_)
  exact outLog_eq _ _ _ _ _ (tk b l) (fun r => (h r).mq) (fun r => (h r).sq) (fun r => (h r).tq)

include hx in
theorem res_kl (b : Fin 2) (l : Fin 128) : (pdat m 0 c).arrAt 9 cfg0.N (ix2 b l)
    = divergence (polLogit (aX m c) (aW m c) (aG m c) b l) (refLogit (aXr m c) (aQ m c) (aH m c) b l) := by
  have h := good_last hx b l
  refine (final9 _).trans (((congrFun (post_9 m c tN) _).trans (canon_rows _ b l)).trans ?_)
  exact outKl_eq _ _ _ _ (tk b l) h

include hx in
theorem res_codes (b : Fin 2) (l : Fin 128) (d : Fin 1536) : (pdat m 0 c).arrAt 10 cfg0.N (ix3 b l d) = code (aX m c) b l d :=
  (final10 _).trans ((congrFun (post_10 m c tN) _).trans (coC_apply hx b l d))

include hx in
theorem res_scales (b : Fin 2) (l : Fin 128) : (pdat m 0 c).arrAt 11 cfg0.N (ix2 b l) = rowScale (aX m c) b l :=
  (final11 _).trans ((congrFun (post_11 m c tN) _).trans (scC_apply hx b l))

variable (m) (ρ : Dev nD → PrngReg)

/-- The kernel's run: every result named, every argument kept, every counter at zero. -/
theorem run_results : θ_run defs (onTc (τ := τ) (main (F := Ideal))) ⟨m, fun _ => 0, ρ⟩ (fun r => (∀ c : Dev nD,
      r.2.mem ((c.tc : Thread nD τ).loc main_v2_0) = (pdat m 0 c).arrAt 7 cfg0.N
      ∧ r.2.mem ((c.tc : Thread nD τ).loc main_v2_1) = (pdat m 0 c).arrAt 8 cfg0.N
      ∧ r.2.mem ((c.tc : Thread nD τ).loc main_v2_2) = (pdat m 0 c).arrAt 9 cfg0.N
      ∧ r.2.mem ((c.tc : Thread nD τ).loc main_v2_3) = (pdat m 0 c).arrAt 10 cfg0.N
      ∧ r.2.mem ((c.tc : Thread nD τ).loc main_v2_4) = (pdat m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1 7, (h.1 c).1 8, (h.1 c).1 9, (h.1 c).1 10, (h.1 c).1 11,
      ((h.1 c).1 0).trans (((pdat m 0 c).arrAt_in 0 rfl _).trans ((pA m c 0).trans (V_main_arg0 m c))),
      ((h.1 c).1 1).trans (((pdat m 0 c).arrAt_in 1 rfl _).trans ((pA m c 1).trans (V_main_arg1 m c))),
      ((h.1 c).1 4).trans (((pdat m 0 c).arrAt_in 4 rfl _).trans ((pA m c 4).trans (V_main_arg2 m c))),
      ((h.1 c).2 main_arg3 (Pipeline.mem_restRefs_of main_arg3 (by decide) (by decide))).trans (V_main_arg3 m c),
      ((h.1 c).1 5).trans (((pdat m 0 c).arrAt_in 5 rfl _).trans ((pA m c 5).trans (V_main_arg4 m c))),
      ((h.1 c).2 main_arg5 (Pipeline.mem_restRefs_of main_arg5 (by decide) (by decide))).trans (V_main_arg5 m c),
      ((h.1 c).1 2).trans (((pdat m 0 c).arrAt_in 2 rfl _).trans ((pA m c 2).trans (V_main_arg6 m c)))⟩, h.2⟩) (run_all m ρ)

end Cert.KernelIdeal.Run

end
-- ==== Proof.RefVal.lean ====
module

public import proofs.«01_k».proof.Proof.Result
public import proofs.«01_k».proof.Proof.Gen.ReferenceIdeal.Value

@[expose] public section

set_option maxRecDepth 16384
set_option maxHeartbeats 1000000

noncomputable section

namespace Cert.ReferenceIdeal.Val

open Cert.ReferenceIdeal.Gen Cert.KernelIdeal.Tile Cert.Online
open Cert.KernelIdeal.Run (polLogit refLogit logProb divergence)
open Idealize.ShloMosaic Idealize.ShloMosaic.TcCoe
open Finset (range univ)

abbrev zp (x : Vec Ideal S2x128x1536 .bf16) (w : Vec Ideal S152064x1536 .fp8e4m3) (g : Vec Ideal S152064 .f32) : FVec Ideal S256x152064 .f32 :=
  k0_pay9 (k0_pay6 x) (k0_pay7 x) w g

theorem zp_apply (x : Vec Ideal S2x128x1536 .bf16) (w : Vec Ideal S152064x1536 .fp8e4m3) (g : Vec Ideal S152064 .f32)
    (b : Fin 2) (l : Fin 128) (v : Fin 152064) (h : b.val * 128 + l.val < 256) :
    zp x w g (ix2 ⟨b.val * 128 + l.val, h⟩ v) = polLogit x w g b l v := by
  unfold polLogit zp
  rw [← refScale]
  pointwise [k0_pay9, k0_pay6, k0_pay7]
  refine congrArg₂ (fun a b : EReal => a * b) (Finset.sum_congr rfl fun d _ => ?_) rfl
  rw [refCode]

abbrev zq (h : Vec Ideal S152064x12 .f32) (w : Vec Ideal S152064x768 .i8) (ev od : Vec Ideal S256x768 .bf16) : FVec Ideal S256x152064 .f32 :=
  k0_pay15 (k0_pay12 h w) (k0_pay13 h w) (k0_pay14 ev) (constant S256x152064 .f32 0x00000000#32) od

theorem zq_apply (xr : Vec Ideal S2x128x1536 .bf16) (h : Vec Ideal S152064x12 .f32) (w : Vec Ideal S152064x768 .i8) (ev od : Vec Ideal S256x768 .bf16)
    (b : Fin 2) (l : Fin 128) (v : Fin 152064) (hb : b.val * 128 + l.val < 256)
    (hev : ∀ k : Fin 768, ev (ix2 ⟨b.val * 128 + l.val, hb⟩ k) = xr (ix3 b l ⟨2 * k.val, by omega⟩))
    (hod : ∀ k : Fin 768, od (ix2 ⟨b.val * 128 + l.val, hb⟩ k) = xr (ix3 b l ⟨2 * k.val + 1, by omega⟩)) :
    zq h w ev od (ix2 ⟨b.val * 128 + l.val, hb⟩ v) = refLogit xr w h b l v := by
  unfold refLogit zq
  pointwise [k0_pay15, k0_pay12, k0_pay13, k0_pay14, k0_pay11, k0_pay10]
  refine congrArg₂ (fun a b : EReal => a + b) (Finset.sum_congr rfl fun k _ => ?_) (Finset.sum_congr rfl fun k _ => ?_)
  · rw [hev]; rfl
  · rw [hod]; rfl

theorem sel_eq (v : Fin 152064) (t : BitVec 32) (z : EReal) :
    Scalar.select (IntOp.cmpi CmpIPredicate.eq (BitVec.ofNat 32 v.val) t) z 0 = if t = BitVec.ofNat 32 v.val then z else 0 := by
  by_cases h : t = BitVec.ofNat 32 v.val
  · rw [if_pos h, h]; simp [Scalar.select, IntOp.cmpi]
  · rw [if_neg h]
    show (if BitVec.ofBool (BitVec.ofNat 32 v.val == t) = 1#1 then z else 0) = 0
    rw [beq_eq_false_iff_ne.2 (Ne.symm h)]; rfl

section
variable (z z' : FVec Ideal S256x152064 .f32) (k : Fin 256)

theorem max_apply : k0_pay16 z (ix1 k) = univ.sup fun v => z (ix2 k v) := by
  rw [← fold_max]
  pointwise [k0_pay16]

theorem sum_apply : k0_pay19 z (ix1 k) = ∑ v, Ideal.exp (z (ix2 k v) - univ.sup fun v => z (ix2 k v)) := by
  rw [← max_apply]
  pointwise [k0_pay19, k0_pay18]

theorem add_log (a b : FVec Ideal S256 .f32) (i : S256.Idx) : addf a (log b) i = (a i + Ideal.log (b i) : EReal) := rfl

theorem pay23_eq : k0_pay23 z = addf (k0_pay16 z) (log (k0_pay19 z)) := by
  unfold k0_pay23; rfl

theorem lse_apply : k0_pay23 z (ix1 k) = (univ.sup fun v => z (ix2 k v)) + Ideal.log (∑ v, Ideal.exp (z (ix2 k v) - univ.sup fun v => z (ix2 k v))) := by
  have e := add_log (k0_pay16 z) (k0_pay19 z) (ix1 k)
  rw [sum_apply, max_apply] at e
  exact (congrFun (pay23_eq z) (ix1 k)).trans e

theorem dot_apply : (multiReduction .add [1] S256 (mulf (k0_pay18 z) (subf z z')) 0x00000000#32 reduces_S256x152064_S256 (.inl rfl) rfl : FVec Ideal S256 .f32) (ix1 k)
    = ∑ v, Ideal.exp (z (ix2 k v) - univ.sup fun v => z (ix2 k v)) * (z (ix2 k v) - z' (ix2 k v)) := by
  rw [← max_apply]
  pointwise [k0_pay18]

end

theorem logp_apply (t : Vec Ideal S2x128 .i32) (z : FVec Ideal S256x152064 .f32) (b : Fin 2) (l : Fin 128) (hb : b.val * 128 + l.val < 256) :
    k0_pay25 (k0_pay8 t) z (ix2 b l) = logProb (t (ix2 b l)) (fun v => z (ix2 ⟨b.val * 128 + l.val, hb⟩ v)) := by
  have e : k0_pay8 t (ix1 ⟨b.val * 128 + l.val, hb⟩) = t (ix2 b l) := by
    pointwise [k0_pay8]
  unfold logProb
  rw [← e, ← sum_apply, ← max_apply, ← Finset.sum_congr rfl fun v _ => sel_eq v _ _]
  pointwise [k0_pay25, k0_pay22]

theorem logq_apply (t : Vec Ideal S2x128 .i32) (h : Vec Ideal S152064x12 .f32) (w : Vec Ideal S152064x768 .i8) (ev od : Vec Ideal S256x768 .bf16) (b : Fin 2) (l : Fin 128) (hb : b.val * 128 + l.val < 256) :
    k0_pay26 (k0_pay8 t) (k0_pay12 h w) (k0_pay13 h w) (k0_pay14 ev) (constant S256x152064 .f32 0x00000000#32) od (ix2 b l)
      = logProb (t (ix2 b l)) (fun v => zq h w ev od (ix2 ⟨b.val * 128 + l.val, hb⟩ v)) :=
  (show _ = k0_pay25 (k0_pay8 t) (zq h w ev od) (ix2 b l) from rfl).trans (logp_apply t _ b l hb)

theorem kl_apply (z : FVec Ideal S256x152064 .f32) (h : Vec Ideal S152064x12 .f32) (w : Vec Ideal S152064x768 .i8) (ev od : Vec Ideal S256x768 .bf16) (b : Fin 2) (l : Fin 128) (hb : b.val * 128 + l.val < 256) :
    k0_pay1 (k0_pay19 z) (k0_pay20 z (k0_pay12 h w) (k0_pay13 h w) (k0_pay14 ev) (constant S256x152064 .f32 0x00000000#32) od)
      (k0_pay23 z) (k0_pay24 (k0_pay12 h w) (k0_pay13 h w) (k0_pay14 ev) (constant S256x152064 .f32 0x00000000#32) od) (ix2 b l)
      = divergence (fun v => z (ix2 ⟨b.val * 128 + l.val, hb⟩ v)) (fun v => zq h w ev od (ix2 ⟨b.val * 128 + l.val, hb⟩ v)) := by
  unfold divergence
  rw [← dot_apply, ← lse_apply, ← lse_apply, ← sum_apply]
  generalize hz : zq h w ev od = z'
  have e1 : k0_pay24 (k0_pay12 h w) (k0_pay13 h w) (k0_pay14 ev) (constant S256x152064 .f32 0x00000000#32) od = k0_pay23 z' := by
    rw [← hz]; rfl
  have e2 : k0_pay20 z (k0_pay12 h w) (k0_pay13 h w) (k0_pay14 ev) (constant S256x152064 .f32 0x00000000#32) od
      = multiReduction .add [1] S256 (mulf (k0_pay18 z) (subf z z')) 0x00000000#32 reduces_S256x152064_S256 (.inl rfl) rfl := by
    rw [← hz]; rfl
  rw [e1, e2]
  generalize k0_pay19 z = a1
  generalize k0_pay23 z = a2
  generalize k0_pay23 z' = a3
  generalize (multiReduction .add [1] S256 (mulf (k0_pay18 z) (subf z z')) 0x00000000#32 reduces_S256x152064_S256 (.inl rfl) rfl : FVec Ideal S256 .f32) = a4
  pointwise [k0_pay1]

end Cert.ReferenceIdeal.Val

end
-- ==== Proof.RefRun.lean ====
module

public import proofs.«01_k».proof.Proof.RefVal

@[expose] public section

set_option maxRecDepth 16384
set_option maxHeartbeats 1000000

noncomputable section

namespace Cert.ReferenceIdeal.Val

open Cert.ReferenceIdeal.Gen Cert.KernelIdeal.Tile Cert.Online
open Cert.KernelIdeal.Run (polLogit refLogit logProb divergence)
open Idealize.SL.RA Idealize.ShloMosaic.Rounds Idealize.ShloMosaic Idealize.ShloMosaic.TcCoe
open Finset (range univ)

variable (m : (ℓ : Loc nD τ sig) → Buf (Elt Ideal) ℓ) (ρ : Dev nD → PrngReg)

abbrev aX (c : Dev nD) : Vec Ideal S2x128x1536 .bf16 := m ((c : Thread nD τ).loc main_arg0)
abbrev aXr (c : Dev nD) : Vec Ideal S2x128x1536 .bf16 := m ((c : Thread nD τ).loc main_arg1)
abbrev aW (c : Dev nD) : Vec Ideal S152064x1536 .fp8e4m3 := m ((c : Thread nD τ).loc main_arg2)
abbrev aG (c : Dev nD) : Vec Ideal S152064 .f32 := m ((c : Thread nD τ).loc main_arg3)
abbrev aQ (c : Dev nD) : Vec Ideal S152064x768 .i8 := m ((c : Thread nD τ).loc main_arg4)
abbrev aH (c : Dev nD) : Vec Ideal S152064x12 .f32 := m ((c : Thread nD τ).loc main_arg5)
abbrev aT (c : Dev nD) : Vec Ideal S2x128 .i32 := m ((c : Thread nD τ).loc main_arg6)

/-- The only point of the grid. -/
abbrev t0 : Fin cfg0.N := ⟨0, by decide⟩

theorem at0 : win0_0.index t0 0 = 0 ∧ win0_0.index t0 1 = 0 ∧ win0_0.index t0 2 = 0 := by decide +kernel
theorem at1 : win0_1.index t0 0 = 0 ∧ win0_1.index t0 1 = 0 := by decide +kernel
theorem at2 : win0_2.index t0 0 = 0 ∧ win0_2.index t0 1 = 0 := by decide +kernel
theorem at3 : win0_3.index t0 0 = 0 ∧ win0_3.index t0 1 = 0 := by decide +kernel
theorem at4 : win0_4.index t0 0 = 0 := by decide +kernel
theorem at5 : win0_5.index t0 0 = 0 ∧ win0_5.index t0 1 = 0 := by decide +kernel
theorem at6 : win0_6.index t0 0 = 0 ∧ win0_6.index t0 1 = 0 := by decide +kernel
theorem at7 : win0_7.index t0 0 = 0 ∧ win0_7.index t0 1 = 0 := by decide +kernel

theorem win0 (c : Dev nD) : iblk m c 0 t0 = aX m c := by
  funext i; rw [eq_ix3 i]
  blk_ext [iblk, V, at0.1, at0.2.1, at0.2.2]
theorem win3 (c : Dev nD) : iblk m c 3 t0 = aW m c := by
  funext i; rw [eq_ix2 i]
  blk_ext [iblk, V, at3.1, at3.2]
theorem win4 (c : Dev nD) : iblk m c 4 t0 = aG m c := by
  funext i; rw [eq_ix1 i]
  blk_ext [iblk, V, at4]
theorem win5 (c : Dev nD) : iblk m c 5 t0 = aQ m c := by
  funext i; rw [eq_ix2 i]
  blk_ext [iblk, V, at5.1, at5.2]
theorem win6 (c : Dev nD) : iblk m c 6 t0 = aH m c := by
  funext i; rw [eq_ix2 i]
  blk_ext [iblk, V, at6.1, at6.2]
theorem win7 (c : Dev nD) : iblk m c 7 t0 = aT m c := by
  funext i; rw [eq_ix2 i]
  blk_ext [iblk, V, at7.1, at7.2]

theorem ix3_eq {n0 n1 n2 : ℕ} {a a' : Fin n0} {b b' : Fin n1} {d d' : Fin n2} (ha : a.val = a'.val) (hb : b.val = b'.val) (hd : d.val = d'.val) :
    ix3 a b d = ix3 a' b' d' := by
  rw [Fin.ext ha, Fin.ext hb, Fin.ext hd]

theorem win1 (c : Dev nD) (b : Fin 2) (l : Fin 128) (hb : b.val * 128 + l.val < 256) (k : Fin 768) :
    iblk m c 1 t0 (ix2 ⟨b.val * 128 + l.val, hb⟩ k) = aXr m c (ix3 b l ⟨2 * k.val, by omega⟩) := by
  have e : iblk m c 1 t0 (ix2 ⟨b.val * 128 + l.val, hb⟩ k) = V m c main_v1 (ix2 ⟨b.val * 128 + l.val, hb⟩ k) := by
    blk_ext [iblk, at1.1, at1.2]
  rw [e]
  unfold V
  after_reads_at
  refine congrArg (aXr m c) (ix3_eq ?_ ?_ ?_) <;> dsimp only <;> omega

theorem win2 (c : Dev nD) (b : Fin 2) (l : Fin 128) (hb : b.val * 128 + l.val < 256) (k : Fin 768) :
    iblk m c 2 t0 (ix2 ⟨b.val * 128 + l.val, hb⟩ k) = aXr m c (ix3 b l ⟨2 * k.val + 1, by omega⟩) := by
  have e : iblk m c 2 t0 (ix2 ⟨b.val * 128 + l.val, hb⟩ k) = V m c main_v2 (ix2 ⟨b.val * 128 + l.val, hb⟩ k) := by
    blk_ext [iblk, at2.1, at2.2]
  rw [e]
  unfold V
  after_reads_at
  refine congrArg (aXr m c) (ix3_eq ?_ ?_ ?_) <;> dsimp only <;> omega

section
variable (x : Vec Ideal S2x128x1536 .bf16) (ev od : Vec Ideal S256x768 .bf16) (w : Vec Ideal S152064x1536 .fp8e4m3) (g : Vec Ideal S152064 .f32)
    (q : Vec Ideal S152064x768 .i8) (h : Vec Ideal S152064x12 .f32) (t : Vec Ideal S2x128 .i32)

theorem logp_out : out0_8 x ev od w g q h t = k0_pay25 (k0_pay8 t) (zp x w g) := by
  unfold out0_8 k0_pay27 k0_pay29
  simp (disch := decide) only [View.ld_unit_lit', View.canon_cons_unit_lit']
theorem logq_out : out0_9 x ev od w g q h t
    = k0_pay26 (k0_pay8 t) (k0_pay12 h q) (k0_pay13 h q) (k0_pay14 ev) (constant S256x152064 .f32 0x00000000#32) od := by
  unfold out0_9 k0_pay27 k0_pay28 k0_pay30 k0_pay31 k0_pay32
  simp (disch := decide) only [View.ld_unit_lit', View.canon_cons_unit_lit']
theorem kl_out : out0_10 x ev od w g q h t
    = k0_pay1 (k0_pay19 (zp x w g)) (k0_pay20 (zp x w g) (k0_pay12 h q) (k0_pay13 h q) (k0_pay14 ev) (constant S256x152064 .f32 0x00000000#32) od)
      (k0_pay23 (zp x w g)) (k0_pay24 (k0_pay12 h q) (k0_pay13 h q) (k0_pay14 ev) (constant S256x152064 .f32 0x00000000#32) od) := by
  unfold out0_10 k0_pay28 k0_pay29 k0_pay30 k0_pay31 k0_pay32
  simp (disch := decide) only [View.ld_unit_lit', View.canon_cons_unit_lit']
theorem codes_out : out0_11 x ev od w g q h t = k0_pay4 x := by
  unfold out0_11
  simp (disch := decide) only [View.ld_unit_lit', View.canon_cons_unit_lit']
theorem scales_out : out0_12 x ev od w g q h t = k0_pay5 x := by
  unfold out0_12
  simp (disch := decide) only [View.ld_unit_lit', View.canon_cons_unit_lit']

end

theorem tok_lt (b : Fin 2) (l : Fin 128) : b.val * 128 + l.val < 256 := by omega

theorem val_logp (c : Dev nD) (b : Fin 2) (l : Fin 128) :
    out0_8 (iblk m c 0 t0) (iblk m c 1 t0) (iblk m c 2 t0) (iblk m c 3 t0) (iblk m c 4 t0) (iblk m c 5 t0) (iblk m c 6 t0) (iblk m c 7 t0) (ix2 b l)
      = logProb (aT m c (ix2 b l)) (polLogit (aX m c) (aW m c) (aG m c) b l) := by
  rw [logp_out, win0, win3, win4, win7, logp_apply _ _ b l (tok_lt b l)]
  exact congrArg _ (funext fun v => zp_apply _ _ _ b l v _)

theorem val_zq (c : Dev nD) (b : Fin 2) (l : Fin 128) :
    (fun v => zq (aH m c) (aQ m c) (iblk m c 1 t0) (iblk m c 2 t0) (ix2 ⟨b.val * 128 + l.val, tok_lt b l⟩ v))
      = refLogit (aXr m c) (aQ m c) (aH m c) b l :=
  funext fun v => zq_apply (aXr m c) _ _ _ _ b l v _ (win1 m c b l _) (win2 m c b l _)

theorem val_logq (c : Dev nD) (b : Fin 2) (l : Fin 128) :
    out0_9 (iblk m c 0 t0) (iblk m c 1 t0) (iblk m c 2 t0) (iblk m c 3 t0) (iblk m c 4 t0) (iblk m c 5 t0) (iblk m c 6 t0) (iblk m c 7 t0) (ix2 b l)
      = logProb (aT m c (ix2 b l)) (refLogit (aXr m c) (aQ m c) (aH m c) b l) := by
  rw [logq_out, win5, win6, win7, logq_apply _ _ _ _ _ b l (tok_lt b l), val_zq]

theorem val_kl (c : Dev nD) (b : Fin 2) (l : Fin 128) :
    out0_10 (iblk m c 0 t0) (iblk m c 1 t0) (iblk m c 2 t0) (iblk m c 3 t0) (iblk m c 4 t0) (iblk m c 5 t0) (iblk m c 6 t0) (iblk m c 7 t0) (ix2 b l)
      = divergence (polLogit (aX m c) (aW m c) (aG m c) b l) (refLogit (aXr m c) (aQ m c) (aH m c) b l) := by
  rw [kl_out, win0, win3, win4, win5, win6, kl_apply _ _ _ _ _ b l (tok_lt b l), val_zq]
  exact congrArg (fun z => divergence z _) (funext fun v => zp_apply _ _ _ b l v _)

theorem val_codes (c : Dev nD) (b : Fin 2) (l : Fin 128) (d : Fin 1536) :
    out0_11 (iblk m c 0 t0) (iblk m c 1 t0) (iblk m c 2 t0) (iblk m c 3 t0) (iblk m c 4 t0) (iblk m c 5 t0) (iblk m c 6 t0) (iblk m c 7 t0) (ix3 b l d)
      = code (aX m c) b l d := by
  rw [codes_out, win0]; exact refCode _ b l d

theorem val_scales (c : Dev nD) (b : Fin 2) (l : Fin 128) :
    out0_12 (iblk m c 0 t0) (iblk m c 1 t0) (iblk m c 2 t0) (iblk m c 3 t0) (iblk m c 4 t0) (iblk m c 5 t0) (iblk m c 6 t0) (iblk m c 7 t0) (ix2 b l)
      = rowScale (aX m c) b l := by
  rw [scales_out, win0]; exact refScale _ b l

theorem last8 {c : Dev nD} (D : Pipeline.Dat τ (Elt Ideal) Unit ℕ (UR sig nD τ) ℕ cfg0 c) (ix : S2x128.Idx) : D.arrAt 8 cfg0.N ix = D.flushed 8 t0 ix :=
  D.arrAt_emb_eq_after_last 8 t0 (by decide +kernel) ix
theorem last9 {c : Dev nD} (D : Pipeline.Dat τ (Elt Ideal) Unit ℕ (UR sig nD τ) ℕ cfg0 c) (ix : S2x128.Idx) : D.arrAt 9 cfg0.N ix = D.flushed 9 t0 ix :=
  D.arrAt_emb_eq_after_last 9 t0 (by decide +kernel) ix
theorem last10 {c : Dev nD} (D : Pipeline.Dat τ (Elt Ideal) Unit ℕ (UR sig nD τ) ℕ cfg0 c) (ix : S2x128.Idx) : D.arrAt 10 cfg0.N ix = D.flushed 10 t0 ix :=
  D.arrAt_emb_eq_after_last 10 t0 (by decide +kernel) ix
theorem last11 {c : Dev nD} (D : Pipeline.Dat τ (Elt Ideal) Unit ℕ (UR sig nD τ) ℕ cfg0 c) (ix : S2x128x1536.Idx) : D.arrAt 11 cfg0.N ix = D.flushed 11 t0 ix :=
  D.arrAt_emb_eq_after_last 11 t0 (by decide +kernel) ix
theorem last12 {c : Dev nD} (D : Pipeline.Dat τ (Elt Ideal) Unit ℕ (UR sig nD τ) ℕ cfg0 c) (ix : S2x128.Idx) : D.arrAt 12 cfg0.N ix = D.flushed 12 t0 ix :=
  D.arrAt_emb_eq_after_last 12 t0 (by decide +kernel) ix

theorem run_values : θ_run defs (onTc (τ := τ) (main (F := Ideal))) ⟨m, fun _ => 0, ρ⟩ fun r => ∀ c : Dev nD,
      (∀ (b : Fin 2) (l : Fin 128), r.2.mem ((c : Thread nD τ).loc main_v3_0) (ix2 b l)
        = logProb (aT m c (ix2 b l)) (polLogit (aX m c) (aW m c) (aG m c) b l))
      ∧ (∀ (b : Fin 2) (l : Fin 128), r.2.mem ((c : Thread nD τ).loc main_v3_1) (ix2 b l)
        = logProb (aT m c (ix2 b l)) (refLogit (aXr m c) (aQ m c) (aH m c) b l))
      ∧ (∀ (b : Fin 2) (l : Fin 128), r.2.mem ((c : Thread nD τ).loc main_v3_2) (ix2 b l)
        = divergence (polLogit (aX m c) (aW m c) (aG m c) b l) (refLogit (aXr m c) (aQ m c) (aH m c) b l))
      ∧ (∀ (b : Fin 2) (l : Fin 128) (d : Fin 1536), r.2.mem ((c : Thread nD τ).loc main_v3_3) (ix3 b l d) = code (aX m c) b l d)
      ∧ (∀ (b : Fin 2) (l : Fin 128), r.2.mem ((c : Thread nD τ).loc main_v3_4) (ix2 b l) = rowScale (aX m c) b l)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (Value.run_blocks m ρ)
  obtain ⟨h0, h1, h2, h3, h4, h5⟩ := h c
  refine ⟨fun b l => ?_, fun b l => ?_, fun b l => ?_, fun b l d => ?_, fun b l => ?_, h5⟩
  · refine (congrFun h0 _).trans ((last8 _ (ix2 b l)).trans ((congrFun (Value.flushed8 m c t0) (ix2 b l)).trans ?_))
    exact val_logp m c b l
  · refine (congrFun h1 _).trans ((last9 _ (ix2 b l)).trans ((congrFun (Value.flushed9 m c t0) (ix2 b l)).trans ?_))
    exact val_logq m c b l
  · refine (congrFun h2 _).trans ((last10 _ (ix2 b l)).trans ((congrFun (Value.flushed10 m c t0) (ix2 b l)).trans ?_))
    exact val_kl m c b l
  · refine (congrFun h3 _).trans ((last11 _ (ix3 b l d)).trans ((congrFun (Value.flushed11 m c t0) (ix3 b l d)).trans ?_))
    exact val_codes m c b l d
  · refine (congrFun h4 _).trans ((last12 _ (ix2 b l)).trans ((congrFun (Value.flushed12 m c t0) (ix2 b l)).trans ?_))
    exact val_scales m c b l

end Cert.ReferenceIdeal.Val

end
-- ==== Proof.lean ====
module

public import proofs.«01_k».proof.Defs
public import Idealize.ShloMosaic.Lib.Bf16Pair
public import proofs.«01_k».proof.Proof.KernelFrame
public import proofs.«01_k».proof.Proof.RefRun
public import proofs.«01_k».proof.Proof.Gen.Pre_in_range

@[expose] public section

set_option maxRecDepth 16384
set_option maxHeartbeats 1000000

noncomputable section

namespace Cert.Proof

open Cert.KernelIdeal.Gen Cert.KernelIdeal.Tile Cert.KernelIdeal.Run
open Idealize.ShloMosaic Idealize.ShloMosaic.TcCoe

/-- The precondition bounds every element's magnitude. -/
theorem inRange_of (m : (ℓ : Loc Cert.KernelIdeal.nD Cert.KernelIdeal.τ Cert.KernelIdeal.sig) → Buf (Elt Ideal) ℓ)
    (h : Cert.Pre_KernelIdeal_in_range m) (c : Dev Cert.KernelIdeal.nD) : InRange (aX m c) := by
  intro b l d
  have e := congrFun (h c) (ix3 b l d)
  rw [show Cert.Pre_in_range.fn (F := Ideal) (aX m c) (aXr m c) (aW m c) (aG m c) (aQ m c) (aH m c) (aT m c) (ix3 b l d)
      = FloatOps.cmpf (F := Ideal) (φ := .f32) .ole (FloatOps.absf (F := Ideal) (φ := .f32) (aX m c (ix3 b l d))) (Ideal.ofBits .f32 0x7F7F0000#32) from rfl] at e
  by_contra hn
  simp only [FloatOps.cmpf, Ideal.cmp] at e
  rw [decide_eq_false hn] at e
  exact absurd e (by decide)

theorem arr2_eq {y z : Cert.KernelIdeal.S2x128.Idx → EReal} (h : ∀ b l, y (ix2 b l) = z (ix2 b l)) : y = z :=
  funext fun i => by rw [eq_ix2 i]; exact h _ _
theorem arr3_eq {y z : Cert.KernelIdeal.S2x128x1536.Idx → EReal} (h : ∀ b l d, y (ix3 b l d) = z (ix3 b l d)) : y = z :=
  funext fun i => by rw [eq_ix3 i]; exact h _ _ _

theorem same_values : Cert.algebraic_KernelIdeal_ReferenceIdeal_pre_in_range := by
  intro m g m' g' hp hm
  refine ⟨fun c => (pdat m 0 c).arrAt 7 Cert.KernelIdeal.cfg0.N, fun c => (pdat m 0 c).arrAt 8 Cert.KernelIdeal.cfg0.N,
    fun c => (pdat m 0 c).arrAt 9 Cert.KernelIdeal.cfg0.N, fun c => (pdat m 0 c).arrAt 10 Cert.KernelIdeal.cfg0.N,
    fun c => (pdat m 0 c).arrAt 11 Cert.KernelIdeal.cfg0.N, ?_, ?_⟩
  · exact (θ_run (Cert.KernelIdeal.defs (F := Ideal)) _ _).mono (fun r h => h.1) (run_results m g)
  · refine (θ_run (Cert.ReferenceIdeal.defs (F := Ideal)) _ _).mono (fun r h c => ?_) (Cert.ReferenceIdeal.Val.run_values m' g')
    obtain ⟨h0, h1, h2, h3, h4, h5⟩ := h c
    obtain ⟨e0, e1, e2, e3, e4, e5, e6⟩ := hm c
    have hx := inRange_of m hp c
    have x0 : Cert.ReferenceIdeal.Val.aX m' c = aX m c := e0
    have x1 : Cert.ReferenceIdeal.Val.aXr m' c = aXr m c := e1
    have x2 : Cert.ReferenceIdeal.Val.aW m' c = aW m c := e2
    have x3 : Cert.ReferenceIdeal.Val.aG m' c = aG m c := e3
    have x4 : Cert.ReferenceIdeal.Val.aQ m' c = aQ m c := e4
    have x5 : Cert.ReferenceIdeal.Val.aH m' c = aH m c := e5
    have x6 : Cert.ReferenceIdeal.Val.aT m' c = aT m c := e6
    rw [x0, x2, x3, x6] at h0
    rw [x1, x4, x5, x6] at h1
    rw [x0, x1, x2, x3, x4, x5] at h2
    rw [x0] at h3 h4
    refine ⟨?_, ?_, ?_, ?_, ?_, h5⟩
    · exact arr2_eq fun b l => (h0 b l).trans (res_logp hx b l).symm
    · exact arr2_eq fun b l => (h1 b l).trans (res_logq hx b l).symm
    · exact arr2_eq fun b l => (h2 b l).trans (res_kl hx b l).symm
    · exact arr3_eq fun b l d => (h3 b l d).trans (res_codes hx b l d).symm
    · exact arr2_eq fun b l => (h4 b l).trans (res_scales hx b l).symm

/-- The kernel's and the reference's frames, the ledger of the idealization, and the equality of all five results. -/
theorem claim : Cert.Claim :=
  ⟨Cert.Kernel.Gen.facts, Cert.KernelIdeal.Gen.facts, Cert.ReferenceIdeal.Gen.facts, Cert.Pre_in_range.Gen.facts, fun m g _ => Cert.Kernel.Run.frame_all m g,
    fun m g _ => (θ_run (Cert.KernelIdeal.defs (F := Ideal)) _ _).mono (fun r h => ⟨fun c => (h.1 c).2.2.2.2.2, h.2⟩) (run_results m g),
    fun m g _ => (θ_run (Cert.KernelIdeal.defs (F := Ideal)) _ _).mono (fun r h => ⟨fun c => (h.1 c).2.2.2.2.2, h.2⟩) (run_results m g),
    fun m g _ => Cert.ReferenceIdeal.Gen.frame m g, fun m g _ => Cert.ReferenceIdeal.Gen.frame m g,
    ⟨IdealRules.bf16_pair.statement Cert.KernelIdeal.S1536x128 Cert.KernelIdeal.S768x128,
    IdealRules.named_const.statement Cert.KernelIdeal.κ "log2e" .f32 0x3FB8AA3B#32 (((Real.log 2)⁻¹ : ℝ) : EReal) rfl,
    IdealRules.named_const.statement Cert.KernelIdeal.κ "log2e_over_16" .f32 0x3DB8AA3B#32 (((Real.log 2)⁻¹ * (1 / 16) : ℝ) : EReal) rfl,
    IdealRules.named_const.statement Cert.KernelIdeal.κ "ln2" .f32 0x3F317218#32 ((Real.log 2 : ℝ) : EReal) rfl⟩,
    same_values⟩

end Cert.Proof

end
